-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_rows_in_range : Cert.Pre_rows_in_range.Facts] (m : (ℓ : Loc Cert.Kernel4.nD Cert.Kernel4.τ Cert.Kernel4.sig) → Buf (Elt Bits) ℓ) : Prop :=
  ∀ c : Dev Cert.Kernel4.nD,
    (Cert.Pre_rows_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_rows_in_range : Cert.Pre_rows_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rows_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal [hPre_rows_in_range : Cert.Pre_rows_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rows_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] [hPre_rows_in_range : Cert.Pre_rows_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_rows_in_range : Cert.Pre_rows_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] [hPre_rows_in_range : Cert.Pre_rows_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] [hPre_rows_in_range : Cert.Pre_rows_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_experts_in_range : Cert.Pre_experts_in_range.Facts) (hPre_rows_in_range : Cert.Pre_rows_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_rows_in_range := hPre_rows_in_range)
    ∧ quiescent_Kernel4Ideal (hKernel4Ideal := hKernel4Ideal) (hPre_rows_in_range := hPre_rows_in_range)
    ∧ quiescent_Reference4Ideal (hReference4Ideal := hReference4Ideal) (hPre_rows_in_range := hPre_rows_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_rows_in_range := hPre_rows_in_range)
-- ==== Pre_experts_in_range.lean ====
abbrev S81920x1024 : Shape := ⟨2, ![81920, 1024]⟩
abbrev S160 : Shape := ⟨1, ![160]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : FVec F S81920x1024 .f32) (main_arg1 : IVec S160 32) (main_arg2 : IVec S160 32) (main_arg3 : FVec F S32x1024x2048 .f32) (main_arg4 : FVec F S32x2048 .f32) (main_arg5 : FVec F S32x1024x1024 .f32) (main_arg6 : FVec F S32x1024 .f32) : IVec S160 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  let main_c_1 : IVec S_ 32 := constantI S_ 32 0#32
  let main_v5 : IVec S160 32 := broadcastInDim S160 ![] bcast_S_S160 main_c_1
  let main_v6 : IVec S160 1 := cmpi .sge main_arg2 main_v5
  let main_v7 : IVec S160 1 := andi main_v4 main_v6
  main_v7
-- ==== Pre_rows_in_range.lean ====
abbrev S81920x1024 : Shape := ⟨2, ![81920, 1024]⟩
abbrev S65536 : Shape := ⟨1, ![65536]⟩
abbrev S16384x1024 : Shape := ⟨2, ![16384, 1024]⟩
abbrev S16384x128 : Shape := ⟨2, ![16384, 128]⟩
abbrev S1024 : Shape := ⟨1, ![1024]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : FVec F S81920x1024 .f32) (main_arg1 : IVec S65536 32) (main_arg2 : FVec F S16384x1024 .f32) (main_arg3 : FVec F S16384x128 .f32) (main_arg4 : FVec F S1024 .f32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 81920#32
  let main_v2 : IVec S65536 32 := broadcastInDim S65536 ![] bcast_S_S65536 main_c_0
  let main_v3 : IVec S65536 1 := cmpi .slt main_arg1 main_v2
  let main_v4 : IVec S65536 1 := andi main_v1 main_v3
  main_v4
-- ==== Kernel.lean ====
abbrev S10x16384x512 : Shape := ⟨3, ![10, 16384, 512]⟩
abbrev S16384x512 : Shape := ⟨2, ![16384, 512]⟩
abbrev S1x256x128 : Shape := ⟨3, ![1, 256, 128]⟩
abbrev S1x2048x128 : Shape := ⟨3, ![1, 2048, 128]⟩
abbrev S256x128 : Shape := ⟨2, ![256, 128]⟩
abbrev S1x128 : Shape := ⟨2, ![1, 128]⟩
abbrev S256x1 : Shape := ⟨2, ![256, 1]⟩
abbrev S1x128x128 : Shape := ⟨3, ![1, 128, 128]⟩
abbrev S128x128 : Shape := ⟨2, ![128, 128]⟩
abbrev S256x256 : Shape := ⟨2, ![256, 256]⟩
abbrev S256 : Shape := ⟨1, ![256]⟩

abbrev nBuf : Space → Nat
  | .hbm => 2
  | .vmem => 8
  | .smem => 0
  | _ => 0

abbrev bufTy : (tb : Table) → Fin (tcTables nBuf tb) → BufTy
  | .hbm, ⟨0, _⟩ => ⟨S10x16384x512, .bf16⟩
  | .hbm, ⟨1, _⟩ => ⟨S16384x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S256x128, .bf16⟩
  | .local _ .vmem, ⟨7, _⟩ => ⟨S256x128, .bf16⟩
  | _, _ => ⟨S10x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32_11 : BitVec 32 := 0#32
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let v50 : BitVec 32 := Scalar.subi v17 c0_i32_11
  let c1_i32_12 : BitVec 32 := 1#32
  let v52 : BitVec 32 := Scalar.divsi v50 c1_i32_12
  let v53 : BitVec 32 := Scalar.muli v52 c1_i32_12
  let v54 : BitVec 32 := Scalar.addi c0_i32_11 v53
  let c1_i32_13 : BitVec 32 := 1#32
  ⟨c0_i32_11, v54, c1_i32_13⟩
def k0_mult1 (i : grid0.Coords) (k0_t1 : Fin (k0_t1_loop i).trips) : BitVec 32 :=
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let c1_i32_33 : BitVec 32 := 1#32
  let v103 : BitVec 32 := Scalar.subi v17 c1_i32_33
  let c0_i32_11 : BitVec 32 := 0#32
  let c1_i32_13 : BitVec 32 := 1#32
  let arg7 : BitVec 32 := Scf.iv c0_i32_11 c1_i32_13 k0_t1
  let v104 : BitVec 32 := Scalar.subi v103 arg7
  let c128_i32_34 : BitVec 32 := 128#32
  let v105 : BitVec 32 := Scalar.muli v104 c128_i32_34
  v105
def k0_off1 (i : grid0.Coords) (k0_t1 : Fin (k0_t1_loop i).trips) : Fin 3 → Nat :=
  let c0_35 : Index := 0#32
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let c1_i32_33 : BitVec 32 := 1#32
  let v103 : BitVec 32 := Scalar.subi v17 c1_i32_33
  let c0_i32_11 : BitVec 32 := 0#32
  let c1_i32_13 : BitVec 32 := 1#32
  let arg7 : BitVec 32 := Scf.iv c0_i32_11 c1_i32_13 k0_t1
  let v104 : BitVec 32 := Scalar.subi v103 arg7
  let c128_i32_34 : BitVec 32 := 128#32
  let v105 : BitVec 32 := Scalar.muli v104 c128_i32_34
  let v106 : BitVec 32 := v105
  let v107 : Index := Scalar.indexCast v106
  let c0_36 : Index := 0#32
  ![0, v107.toNat, 0]
@[reducible] def k0_t2_loop (i : grid0.Coords) : Scf.Loop 32 :=
  let c0_i32_11 : BitVec 32 := 0#32
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let v50 : BitVec 32 := Scalar.subi v17 c0_i32_11
  let c1_i32_12 : BitVec 32 := 1#32
  let v52 : BitVec 32 := Scalar.divsi v50 c1_i32_12
  let v53 : BitVec 32 := Scalar.muli v52 c1_i32_12
  let v54 : BitVec 32 := Scalar.addi c0_i32_11 v53
  let v51 : BitVec 32 := Scalar.addi c0_i32_11 v50
  let c1_i32_14 : BitVec 32 := 1#32
  ⟨v54, v51, c1_i32_14⟩
def k0_mult2 (i : grid0.Coords) (k0_t2 : Fin (k0_t2_loop i).trips) : BitVec 32 :=
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let c1_i32_33 : BitVec 32 := 1#32
  let v103 : BitVec 32 := Scalar.subi v17 c1_i32_33
  let c0_i32_11 : BitVec 32 := 0#32
  let v50 : BitVec 32 := Scalar.subi v17 c0_i32_11
  let c1_i32_12 : BitVec 32 := 1#32
  let v52 : BitVec 32 := Scalar.divsi v50 c1_i32_12
  let v53 : BitVec 32 := Scalar.muli v52 c1_i32_12
  let v54 : BitVec 32 := Scalar.addi c0_i32_11 v53
  let c1_i32_14 : BitVec 32 := 1#32
  let arg7 : BitVec 32 := Scf.iv v54 c1_i32_14 k0_t2
  let v104 : BitVec 32 := Scalar.subi v103 arg7
  let c128_i32_34 : BitVec 32 := 128#32
  let v105 : BitVec 32 := Scalar.muli v104 c128_i32_34
  v105
def k0_off2 (i : grid0.Coords) (k0_t2 : Fin (k0_t2_loop i).trips) : Fin 3 → Nat :=
  let c0_35 : Index := 0#32
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let c1_i32_33 : BitVec 32 := 1#32
  let v103 : BitVec 32 := Scalar.subi v17 c1_i32_33
  let c0_i32_11 : BitVec 32 := 0#32
  let v50 : BitVec 32 := Scalar.subi v17 c0_i32_11
  let c1_i32_12 : BitVec 32 := 1#32
  let v52 : BitVec 32 := Scalar.divsi v50 c1_i32_12
  let v53 : BitVec 32 := Scalar.muli v52 c1_i32_12
  let v54 : BitVec 32 := Scalar.addi c0_i32_11 v53
  let c1_i32_14 : BitVec 32 := 1#32
  let arg7 : BitVec 32 := Scf.iv v54 c1_i32_14 k0_t2
  let v104 : BitVec 32 := Scalar.subi v103 arg7
  let c128_i32_34 : BitVec 32 := 128#32
  let v105 : BitVec 32 := Scalar.muli v104 c128_i32_34
  let v106 : BitVec 32 := v105
  let v107 : Index := Scalar.indexCast v106
  let c0_36 : Index := 0#32
  ![0, v107.toNat, 0]
@[reducible] def k0_t3_loop (i : grid0.Coords) : Scf.Loop 32 :=
  let c0_i32_26 : BitVec 32 := 0#32
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let v89 : BitVec 32 := Scalar.subi v17 c0_i32_26
  let c1_i32_27 : BitVec 32 := 1#32
  let v91 : BitVec 32 := Scalar.divsi v89 c1_i32_27
  let v92 : BitVec 32 := Scalar.muli v91 c1_i32_27
  let v93 : BitVec 32 := Scalar.addi c0_i32_26 v92
  let c1_i32_28 : BitVec 32 := 1#32
  ⟨c0_i32_26, v93, c1_i32_28⟩
def k0_mult3 (i : grid0.Coords) (k0_t3 : Fin (k0_t3_loop i).trips) : BitVec 32 :=
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let c1_i32_33 : BitVec 32 := 1#32
  let v103 : BitVec 32 := Scalar.subi v17 c1_i32_33
  let c0_i32_26 : BitVec 32 := 0#32
  let c1_i32_28 : BitVec 32 := 1#32
  let arg7 : BitVec 32 := Scf.iv c0_i32_26 c1_i32_28 k0_t3
  let v104 : BitVec 32 := Scalar.subi v103 arg7
  let c128_i32_34 : BitVec 32 := 128#32
  let v105 : BitVec 32 := Scalar.muli v104 c128_i32_34
  v105
def k0_off3 (i : grid0.Coords) (k0_t3 : Fin (k0_t3_loop i).trips) : Fin 3 → Nat :=
  let c0_35 : Index := 0#32
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let c1_i32_33 : BitVec 32 := 1#32
  let v103 : BitVec 32 := Scalar.subi v17 c1_i32_33
  let c0_i32_26 : BitVec 32 := 0#32
  let c1_i32_28 : BitVec 32 := 1#32
  let arg7 : BitVec 32 := Scf.iv c0_i32_26 c1_i32_28 k0_t3
  let v104 : BitVec 32 := Scalar.subi v103 arg7
  let c128_i32_34 : BitVec 32 := 128#32
  let v105 : BitVec 32 := Scalar.muli v104 c128_i32_34
  let v106 : BitVec 32 := v105
  let v107 : Index := Scalar.indexCast v106
  let c0_36 : Index := 0#32
  ![0, v107.toNat, 0]
@[reducible] def k0_t4_loop (i : grid0.Coords) : Scf.Loop 32 :=
  let c0_i32_26 : BitVec 32 := 0#32
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let v89 : BitVec 32 := Scalar.subi v17 c0_i32_26
  let c1_i32_27 : BitVec 32 := 1#32
  let v91 : BitVec 32 := Scalar.divsi v89 c1_i32_27
  let v92 : BitVec 32 := Scalar.muli v91 c1_i32_27
  let v93 : BitVec 32 := Scalar.addi c0_i32_26 v92
  let v90 : BitVec 32 := Scalar.addi c0_i32_26 v89
  let c1_i32_29 : BitVec 32 := 1#32
  ⟨v93, v90, c1_i32_29⟩
def k0_mult4 (i : grid0.Coords) (k0_t4 : Fin (k0_t4_loop i).trips) : BitVec 32 :=
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let c1_i32_33 : BitVec 32 := 1#32
  let v103 : BitVec 32 := Scalar.subi v17 c1_i32_33
  let c0_i32_26 : BitVec 32 := 0#32
  let v89 : BitVec 32 := Scalar.subi v17 c0_i32_26
  let c1_i32_27 : BitVec 32 := 1#32
  let v91 : BitVec 32 := Scalar.divsi v89 c1_i32_27
  let v92 : BitVec 32 := Scalar.muli v91 c1_i32_27
  let v93 : BitVec 32 := Scalar.addi c0_i32_26 v92
  let c1_i32_29 : BitVec 32 := 1#32
  let arg7 : BitVec 32 := Scf.iv v93 c1_i32_29 k0_t4
  let v104 : BitVec 32 := Scalar.subi v103 arg7
  let c128_i32_34 : BitVec 32 := 128#32
  let v105 : BitVec 32 := Scalar.muli v104 c128_i32_34
  v105
def k0_off4 (i : grid0.Coords) (k0_t4 : Fin (k0_t4_loop i).trips) : Fin 3 → Nat :=
  let c0_35 : Index := 0#32
  let arg2 : BitVec 32 := BitVec.ofNat 32 (i 2).val
  let c1_i32 : BitVec 32 := 1#32
  let v16 : BitVec 32 := Scalar.addi arg2 c1_i32
  let c2_i32 : BitVec 32 := 2#32
  let v17 : BitVec 32 := Scalar.muli v16 c2_i32
  let c1_i32_33 : BitVec 32 := 1#32
  let v103 : BitVec 32 := Scalar.subi v17 c1_i32_33
  let c0_i32_26 : BitVec 32 := 0#32
  let v89 : BitVec 32 := Scalar.subi v17 c0_i32_26
  let c1_i32_27 : BitVec 32 := 1#32
  let v91 : BitVec 32 := Scalar.divsi v89 c1_i32_27
  let v92 : BitVec 32 := Scalar.muli v91 c1_i32_27
  let v93 : BitVec 32 := Scalar.addi c0_i32_26 v92
  let c1_i32_29 : BitVec 32 := 1#32
  let arg7 : BitVec 32 := Scf.iv v93 c1_i32_29 k0_t4
  let v104 : BitVec 32 := Scalar.subi v103 arg7
  let c128_i32_34 : BitVec 32 := 128#32
  let v105 : BitVec 32 := Scalar.muli v104 c128_i32_34
  let v106 : BitVec 32 := v105
  let v107 : Index := Scalar.indexCast v106
  let c0_36 : Index := 0#32
  ![0, v107.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![c0_i32.toNat, v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S10x16384x512 : Shape := ⟨3, ![10, 16384, 512]⟩
abbrev S1x16384x512 : Shape := ⟨3, ![1, 16384, 512]⟩
abbrev S16384x512 : Shape := ⟨2, ![16384, 512]⟩
abbrev S8x2048x512 : Shape := ⟨3, ![8, 2048, 512]⟩
abbrev S8x2048x8x64 : Shape := ⟨4, ![8, 2048, 8, 64]⟩
abbrev S8x8x2048x64 : Shape := ⟨4, ![8, 8, 2048, 64]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 79
  | .vmem => 0
  | .smem => 0
  | _ => 0

abbrev bufTy : (tb : Table) → Fin (tcTables nBuf tb) → BufTy
  | .hbm, ⟨0, _⟩ => ⟨S10x16384x512, .bf16⟩
  | .hbm, ⟨1, _⟩ => ⟨S10x16384x512, .f32⟩
  | .hbm, ⟨2, _⟩ => ⟨S1x16384x512, .f32⟩
  | .hbm, ⟨3, _⟩ => ⟨S16384x512, .f32⟩
  | .hbm, ⟨4, _⟩ => ⟨S8x2048x512, .f32⟩
  | .hbm, ⟨5, _⟩ => ⟨S8x2048x8x64, .f32⟩
  | .hbm, ⟨6, _⟩ => ⟨S8x8x2048x64, .f32⟩
  | .hbm, ⟨7, _⟩ => ⟨S1x16384x512, .f32⟩
  | .hbm, ⟨8, _⟩ => ⟨S16384x512, .f32⟩
  | .hbm, ⟨9, _⟩ => ⟨S8x2048x512, .f32⟩
  | .hbm, ⟨10, _⟩ => ⟨S8x2048x8x64, .f32⟩
  | .hbm, ⟨11, _⟩ => ⟨S8x8x2048x64, .f32⟩
  | .hbm, ⟨12, _⟩ => ⟨S1x16384x512, .f32⟩
  | .hbm, ⟨13, _⟩ => ⟨S16384x512, .f32⟩
  | .hbm, ⟨14, _⟩ => ⟨S8x2048x512, .f32⟩
  | .hbm, ⟨15, _⟩ => ⟨S8x2048x8x64, .f32⟩
  | .hbm, ⟨16, _⟩ => ⟨S8x8x2048x64, .f32⟩
  | .hbm, ⟨17, _⟩ => ⟨S8x8x2048x2048, .f32⟩
  | .hbm, ⟨18, _⟩ => ⟨S_, .f32⟩
  | .hbm, ⟨19, _⟩ => ⟨S8x8x2048x2048, .f32⟩
  | .hbm, ⟨20, _⟩ => ⟨S8x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .i1⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S8x8x2048x2048, .f32⟩
  | .hbm, ⟨40, _⟩ => ⟨S8x8x2048x2048, .f32⟩
  | .hbm, ⟨41, _⟩ => ⟨S8x8x2048x2048, .f32⟩
  | .hbm, ⟨42, _⟩ => ⟨S_, .f32⟩
  | .hbm, ⟨43, _⟩ => ⟨S_, .f32⟩
  | .hbm, ⟨44, _⟩ => ⟨S8x8x2048x2048, .i1⟩
  | .hbm, ⟨45, _⟩ => ⟨S8x8x2048x2048, .f32⟩
  | .hbm, ⟨46, _⟩ => ⟨S8x8x2048x2048, .f32⟩
  | .hbm, ⟨47, _⟩ => ⟨S_, .f32⟩
  | .hbm, ⟨48, _⟩ => ⟨S_, .f32⟩
  | .hbm, ⟨49, _⟩ => ⟨S8x8x2048x2048, .f32⟩
  | .hbm, ⟨50, _⟩ => ⟨S8x8x2048x2048, .f32⟩
  | .hbm, ⟨51, _⟩ => ⟨S8x8x2048x2048, .f32⟩
  | .hbm, ⟨52, _⟩ => ⟨S_, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .i1⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S8x8x2048x2048, .f32⟩
  | .hbm, ⟨67, _⟩ => ⟨S8x8x2048x2048, .f32⟩
  | .hbm, ⟨68, _⟩ => ⟨S8x8x2048x2048, .f32⟩
  | .hbm, ⟨69, _⟩ => ⟨S_, .f32⟩
  | .hbm, ⟨70, _⟩ => ⟨S_, .f32⟩
  | .hbm, ⟨71, _⟩ => ⟨S8x8x2048x2048, .i1⟩
  | .hbm, ⟨72, _⟩ => ⟨S8x8x2048x2048, .f32⟩
  | .hbm, ⟨73, _⟩ => ⟨S8x8x2048x2048, .f32⟩
  | .hbm, ⟨74, _⟩ => ⟨S8x8x2048x64, .f32⟩
  | .hbm, ⟨75, _⟩ => ⟨S8x2048x8x64, .f32⟩
  | .hbm, ⟨76, _⟩ => ⟨S8x2048x512, .f32⟩
  | .hbm, ⟨77, _⟩ => ⟨S16384x512, .f32⟩
  | .hbm, ⟨78, _⟩ => ⟨S16384x512, .bf16⟩
  | _, _ => ⟨S10x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v27 : Ref sig .tc := ⟨.hbm, 46, rfl⟩
abbrev main_call2_cst : Ref sig .tc := ⟨.hbm, 47, rfl⟩
abbrev main_call2_v0 : Ref sig .tc := ⟨.hbm, 48, rfl⟩
abbrev main_v28 : Ref sig .tc := ⟨.hbm, 49, rfl⟩
abbrev main_v29 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩

abbrev nD : Nat := 1
abbrev τ : Topo := Topo.v7x

variable {F : FTy → Type} [FloatOps F]
-- ==== Kernel2.lean ====
abbrev S81920x1024 : Shape := ⟨2, ![81920, 1024]⟩
abbrev S160 : Shape := ⟨1, ![160]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S81920x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S160, .i32⟩
  | .local _ .smem, ⟨1, _⟩ => ⟨S160, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S81920x1024 : Shape := ⟨2, ![81920, 1024]⟩
abbrev S160 : Shape := ⟨1, ![160]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S160x1 : Shape := ⟨2, ![160, 1]⟩
abbrev S160x512 : Shape := ⟨2, ![160, 512]⟩
abbrev S81920 : Shape := ⟨1, ![81920]⟩
abbrev S81920x1 : Shape := ⟨2, ![81920, 1]⟩
abbrev S1x32 : Shape := ⟨2, ![1, 32]⟩
abbrev S81920x32 : Shape := ⟨2, ![81920, 32]⟩
abbrev S32x2048x81920 : Shape := ⟨3, ![32, 2048, 81920]⟩
abbrev S32x81920x2048 : Shape := ⟨3, ![32, 81920, 2048]⟩
abbrev S32x1x2048 : Shape := ⟨3, ![32, 1, 2048]⟩
abbrev S32x81920x1024 : Shape := ⟨3, ![32, 81920, 1024]⟩
abbrev S32x1x1024 : Shape := ⟨3, ![32, 1, 1024]⟩
abbrev S32x81920 : Shape := ⟨2, ![32, 81920]⟩
abbrev S32x81920x1 : Shape := ⟨3, ![32, 81920, 1]⟩

abbrev nBuf : Space → Nat
  | .hbm => 67
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S160, .i32⟩
  | .hbm, ⟨2, _⟩ => ⟨S160, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S_, .i32⟩
  | .hbm, ⟨8, _⟩ => ⟨S160, .i32⟩
  | .hbm, ⟨9, _⟩ => ⟨S160, .i1⟩
  | .hbm, ⟨10, _⟩ => ⟨S_, .i32⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160x1, .i32⟩
  | .hbm, ⟨15, _⟩ => ⟨S160x512, .i32⟩
  | .hbm, ⟨16, _⟩ => ⟨S81920, .i32⟩
  | .hbm, ⟨17, _⟩ => ⟨S81920x1, .i32⟩
  | .hbm, ⟨18, _⟩ => ⟨S1x32, .i32⟩
  | .hbm, ⟨19, _⟩ => ⟨S81920x32, .i32⟩
  | .hbm, ⟨20, _⟩ => ⟨S81920x32, .i32⟩
  | .hbm, ⟨21, _⟩ => ⟨S81920x32, .i1⟩
  | .hbm, ⟨22, _⟩ => ⟨S81920x32, .f32⟩
  | .hbm, ⟨23, _⟩ => ⟨S32x2048x81920, .f32⟩
  | .hbm, ⟨24, _⟩ => ⟨S32x81920x2048, .f32⟩
  | .hbm, ⟨25, _⟩ => ⟨S32x1x2048, .f32⟩
  | .hbm, ⟨26, _⟩ => ⟨S32x81920x2048, .f32⟩
  | .hbm, ⟨27, _⟩ => ⟨S32x81920x2048, .f32⟩
  | .hbm, ⟨28, _⟩ => ⟨S32x81920x1024, .f32⟩
  | .hbm, ⟨29, _⟩ => ⟨S_, .f32⟩
  | .hbm, ⟨30, _⟩ => ⟨S32x81920x1024, .f32⟩
  | .hbm, ⟨31, _⟩ => ⟨S32x81920x1024, .f32⟩
  | .hbm, ⟨32, _⟩ => ⟨S32x81920x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S32x81920x1024, .f32⟩
  | .hbm, ⟨37, _⟩ => ⟨S32x81920x1024, .f32⟩
  | .hbm, ⟨38, _⟩ => ⟨S_, .f32⟩
  | .hbm, ⟨39, _⟩ => ⟨S32x81920x1024, .f32⟩
  | .hbm, ⟨40, _⟩ => ⟨S32x81920x1024, .f32⟩
  | .hbm, ⟨41, _⟩ => ⟨S_, .f32⟩
  | .hbm, ⟨42, _⟩ => ⟨S32x81920x1024, .f32⟩
  | .hbm, ⟨43, _⟩ => ⟨S32x81920x1024, .f32⟩
  | .hbm, ⟨44, _⟩ => ⟨S_, .f32⟩
  | .hbm, ⟨45, _⟩ => ⟨S32x81920x1024, .f32⟩
  | .hbm, ⟨46, _⟩ => ⟨S32x81920x1024, .f32⟩
  | .hbm, ⟨47, _⟩ => ⟨S32x81920x1024, .f32⟩
  | .hbm, ⟨48, _⟩ => ⟨S32x81920x1024, .f32⟩
  | .hbm, ⟨49, _⟩ => ⟨S_, .f32⟩
  | .hbm, ⟨50, _⟩ => ⟨S32x81920x1024, .f32⟩
  | .hbm, ⟨51, _⟩ => ⟨S32x81920x1024, .f32⟩
  | .hbm, ⟨52, _⟩ => ⟨S_, .f32⟩
  | .hbm, ⟨53, _⟩ => ⟨S32x81920x1024, .f32⟩
  | .hbm, ⟨54, _⟩ => ⟨S32x81920x1024, .f32⟩
  | .hbm, ⟨55, _⟩ => ⟨S32x81920x1024, .f32⟩
  | .hbm, ⟨56, _⟩ => ⟨S32x81920x1024, .f32⟩
  | .hbm, ⟨57, _⟩ => ⟨S32x81920x1024, .f32⟩
  | .hbm, ⟨58, _⟩ => ⟨S32x1x1024, .f32⟩
  | .hbm, ⟨59, _⟩ => ⟨S32x81920x1024, .f32⟩
  | .hbm, ⟨60, _⟩ => ⟨S32x81920x1024, .f32⟩
  | .hbm, ⟨61, _⟩ => ⟨S32x81920, .f32⟩
  | .hbm, ⟨62, _⟩ => ⟨S32x81920x1, .f32⟩
  | .hbm, ⟨63, _⟩ => ⟨S32x81920x1024, .f32⟩
  | .hbm, ⟨64, _⟩ => ⟨S32x81920x1024, .f32⟩
  | .hbm, ⟨65, _⟩ => ⟨S_, .f32⟩
  | .hbm, ⟨66, _⟩ => ⟨S81920x1024, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_cst_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_5 : Ref sig .tc := ⟨.hbm, 49, rfl⟩
abbrev main_v23 : Ref sig .tc := ⟨.hbm, 50, rfl⟩
abbrev main_v24 : Ref sig .tc := ⟨.hbm, 51, rfl⟩
abbrev main_cst_6 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x5120 : Shape := ⟨2, ![1024, 5120]⟩
abbrev S1x1024 : Shape := ⟨2, ![1, 1024]⟩
abbrev S10x16384x512 : Shape := ⟨3, ![10, 16384, 512]⟩
abbrev S512x1024 : Shape := ⟨2, ![512, 1024]⟩
abbrev S10x512x512 : Shape := ⟨3, ![10, 512, 512]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5120, .f32⟩
  | .hbm, ⟨3, _⟩ => ⟨S1024x5120, .bf16⟩
  | .hbm, ⟨4, _⟩ => ⟨S1x1024, .f32⟩
  | .hbm, ⟨5, _⟩ => ⟨S10x16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S10x512x512, .bf16⟩
  | .local _ .vmem, ⟨5, _⟩ => ⟨S10x512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S1024 : Shape := ⟨1, ![1024]⟩
abbrev S1024x5120 : Shape := ⟨2, ![1024, 5120]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5120 : Shape := ⟨2, ![16384, 5120]⟩
abbrev S16384x10x512 : Shape := ⟨3, ![16384, 10, 512]⟩
abbrev S10x16384x512 : Shape := ⟨3, ![10, 16384, 512]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5120, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5120, .f32⟩
  | .hbm, ⟨20, _⟩ => ⟨S16384x10x512, .f32⟩
  | .hbm, ⟨21, _⟩ => ⟨S10x16384x512, .f32⟩
  | .hbm, ⟨22, _⟩ => ⟨S10x16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S81920x1024 : Shape := ⟨2, ![81920, 1024]⟩
abbrev S65536 : Shape := ⟨1, ![65536]⟩
abbrev S16384x1024 : Shape := ⟨2, ![16384, 1024]⟩
abbrev S16384x128 : Shape := ⟨2, ![16384, 128]⟩
abbrev S1024 : Shape := ⟨1, ![1024]⟩
abbrev S64x1x1024 : Shape := ⟨3, ![64, 1, 1024]⟩
abbrev S1x1024 : Shape := ⟨2, ![1, 1024]⟩
abbrev S1x1x1024 : Shape := ⟨3, ![1, 1, 1024]⟩
abbrev S256x1024 : Shape := ⟨2, ![256, 1024]⟩
abbrev S256x128 : Shape := ⟨2, ![256, 128]⟩
abbrev S4x256x1024 : Shape := ⟨3, ![4, 256, 1024]⟩
abbrev S_ : Shape := ⟨0, ![]⟩
abbrev S1x1x1 : Shape := ⟨3, ![1, 1, 1]⟩
abbrev S256x1 : Shape := ⟨2, ![256, 1]⟩
abbrev S1x256x1024 : Shape := ⟨3, ![1, 256, 1024]⟩
abbrev S256 : Shape := ⟨1, ![256]⟩

abbrev nBuf : Space → Nat
  | .hbm => 8
  | .vmem => 8
  | .smem => 2
  | _ => 0

abbrev bufTy : (tb : Table) → Fin (tcTables nBuf tb) → BufTy
  | .hbm, ⟨0, _⟩ => ⟨S81920x1024, .f32⟩
  | .hbm, ⟨1, _⟩ => ⟨S65536, .i32⟩
  | .hbm, ⟨2, _⟩ => ⟨S16384x1024, .f32⟩
  | .hbm, ⟨3, _⟩ => ⟨S16384x128, .f32⟩
  | .hbm, ⟨4, _⟩ => ⟨S1024, .f32⟩
  | .hbm, ⟨5, _⟩ => ⟨S64x1x1024, .i32⟩
  | .hbm, ⟨6, _⟩ => ⟨S1x1024, .f32⟩
  | .hbm, ⟨7, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S4x256x1024, .f32⟩
  | .local _ .smem, ⟨0, _⟩ => ⟨S1x1x1024, .i32⟩
  | .local _ .smem, ⟨1, _⟩ => ⟨S1x1x1024, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_22 : Index := 0#32
  let c0_23 : Index := 0#32
  let c0_i32 : BitVec 32 := 0#32
  let c1_i32 : BitVec 32 := 1#32
  let arg9 : BitVec 32 := Scf.iv c0_i32 c1_i32 k0_t1
  let c4_i32 : BitVec 32 := 4#32
  let v43 : BitVec 32 := Scalar.muli arg9 c4_i32
  let c0_i32_21 : BitVec 32 := 0#32
  let v44 : BitVec 32 := Scalar.addi v43 c0_i32_21
  let v45 : Index := Scalar.indexCast v44
  ![0, 0, v45.toNat]
def k0_off2 (k0_t1 : Fin k0_t1_loop.trips) : Fin 3 → Nat :=
  let c0_i32_24 : BitVec 32 := 0#32
  let c0_i32 : BitVec 32 := 0#32
  let c1_i32 : BitVec 32 := 1#32
  let arg9 : BitVec 32 := Scf.iv c0_i32 c1_i32 k0_t1
  let c0_i32_25 : BitVec 32 := 0#32
  ![0, arg9.toNat, 0]
def k0_off3 (v46 : BitVec 32) : Fin 2 → Nat :=
  let c0_i32_26 : BitVec 32 := 0#32
  ![v46.toNat, 0]

def k0_chk1 (v46 : BitVec 32) : Prop :=
  (∀ a, (k0_off3 v46) a + S1x1024.size a ≤ S81920x1024.size a)
theorem k0_off3_inb : ∀ (v46 : BitVec 32) (k0_hw1 : k0_chk1 v46), ∀ a, (k0_off3 v46) a + S1x1024.size a ≤ S81920x1024.size a := fun v46 k0_hw1 => k0_hw1

def k0_off4 (k0_t1 : Fin k0_t1_loop.trips) : Fin 3 → Nat :=
  let c0_29 : Index := 0#32
  let c0_30 : Index := 0#32
  let c0_i32 : BitVec 32 := 0#32
  let c1_i32 : BitVec 32 := 1#32
  let arg9 : BitVec 32 := Scf.iv c0_i32 c1_i32 k0_t1
  let c4_i32_27 : BitVec 32 := 4#32
  let v50 : BitVec 32 := Scalar.muli arg9 c4_i32_27
  let c1_i32_28 : BitVec 32 := 1#32
  let v51 : BitVec 32 := Scalar.addi v50 c1_i32_28
  let v52 : Index := Scalar.indexCast v51
  ![0, 0, v52.toNat]
def k0_off5 (k0_t1 : Fin k0_t1_loop.trips) : Fin 3 → Nat :=
  let c1_i32_31 : BitVec 32 := 1#32
  let c0_i32 : BitVec 32 := 0#32
  let c1_i32 : BitVec 32 := 1#32
  let arg9 : BitVec 32 := Scf.iv c0_i32 c1_i32 k0_t1
  let c0_i32_32 : BitVec 32 := 0#32
  ![1, arg9.toNat, 0]
def k0_off6 (v53 : BitVec 32) : Fin 2 → Nat :=
  let c0_i32_33 : BitVec 32 := 0#32
  ![v53.toNat, 0]

def k0_chk2 (v53 : BitVec 32) : Prop :=
  (∀ a, (k0_off6 v53) a + S1x1024.size a ≤ S81920x1024.size a)
theorem k0_off6_inb : ∀ (v53 : BitVec 32) (k0_hw2 : k0_chk2 v53), ∀ a, (k0_off6 v53) a + S1x1024.size a ≤ S81920x1024.size a := fun v53 k0_hw2 => k0_hw2

def k0_off7 (k0_t1 : Fin k0_t1_loop.trips) : Fin 3 → Nat :=
  let c0_35 : Index := 0#32
  let c0_36 : Index := 0#32
  let c0_i32 : BitVec 32 := 0#32
  let c1_i32 : BitVec 32 := 1#32
  let arg9 : BitVec 32 := Scf.iv c0_i32 c1_i32 k0_t1
  let c4_i32_34 : BitVec 32 := 4#32
  let v57 : BitVec 32 := Scalar.muli arg9 c4_i32_34
  let c2_i32 : BitVec 32 := 2#32
  let v58 : BitVec 32 := Scalar.addi v57 c2_i32
  let v59 : Index := Scalar.indexCast v58
  ![0, 0, v59.toNat]
def k0_off8 (k0_t1 : Fin k0_t1_loop.trips) : Fin 3 → Nat :=
  let c2_i32_37 : BitVec 32 := 2#32
  let c0_i32 : BitVec 32 := 0#32
  let c1_i32 : BitVec 32 := 1#32
  let arg9 : BitVec 32 := Scf.iv c0_i32 c1_i32 k0_t1
  let c0_i32_38 : BitVec 32 := 0#32
  ![2, arg9.toNat, 0]
def k0_off9 (v60 : BitVec 32) : Fin 2 → Nat :=
  let c0_i32_39 : BitVec 32 := 0#32
  ![v60.toNat, 0]

def k0_chk3 (v60 : BitVec 32) : Prop :=
  (∀ a, (k0_off9 v60) a + S1x1024.size a ≤ S81920x1024.size a)
theorem k0_off9_inb : ∀ (v60 : BitVec 32) (k0_hw3 : k0_chk3 v60), ∀ a, (k0_off9 v60) a + S1x1024.size a ≤ S81920x1024.size a := fun v60 k0_hw3 => k0_hw3

def k0_off10 (k0_t1 : Fin k0_t1_loop.trips) : Fin 3 → Nat :=
  let c0_41 : Index := 0#32
  let c0_42 : Index := 0#32
  let c0_i32 : BitVec 32 := 0#32
  let c1_i32 : BitVec 32 := 1#32
  let arg9 : BitVec 32 := Scf.iv c0_i32 c1_i32 k0_t1
  let c4_i32_40 : BitVec 32 := 4#32
  let v64 : BitVec 32 := Scalar.muli arg9 c4_i32_40
  let c3_i32 : BitVec 32 := 3#32
  let v65 : BitVec 32 := Scalar.addi v64 c3_i32
  let v66 : Index := Scalar.indexCast v65
  ![0, 0, v66.toNat]
def k0_off11 (k0_t1 : Fin k0_t1_loop.trips) : Fin 3 → Nat :=
  let c3_i32_43 : BitVec 32 := 3#32
  let c0_i32 : BitVec 32 := 0#32
  let c1_i32 : BitVec 32 := 1#32
  let arg9 : BitVec 32 := Scf.iv c0_i32 c1_i32 k0_t1
  let c0_i32_44 : BitVec 32 := 0#32
  ![3, arg9.toNat, 0]
def k0_off12 (v67 : BitVec 32) : Fin 2 → Nat :=
  let c0_i32_45 : BitVec 32 := 0#32
  ![v67.toNat, 0]

def k0_chk4 (v67 : BitVec 32) : Prop :=
  (∀ a, (k0_off12 v67) a + S1x1024.size a ≤ S81920x1024.size a)
theorem k0_off12_inb : ∀ (v67 : BitVec 32) (k0_hw4 : k0_chk4 v67), ∀ a, (k0_off12 v67) a + S1x1024.size a ≤ S81920x1024.size a := fun v67 k0_hw4 => k0_hw4

@[reducible] def k0_t2_loop : Scf.Loop 32 :=
  let c0_i32_1 : BitVec 32 := 0#32
  let c1024_i32 : BitVec 32 := 1024#32
  let v1 : BitVec 32 := Scalar.addi c0_i32_1 c1024_i32
  let c1_i32_2 : BitVec 32 := 1#32
  ⟨c0_i32_1, v1, c1_i32_2⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S81920x1024 : Shape := ⟨2, ![81920, 1024]⟩
abbrev S65536 : Shape := ⟨1, ![65536]⟩
abbrev S16384x1024 : Shape := ⟨2, ![16384, 1024]⟩
abbrev S16384x128 : Shape := ⟨2, ![16384, 128]⟩
abbrev S1024 : Shape := ⟨1, ![1024]⟩
abbrev S16384x4 : Shape := ⟨2, ![16384, 4]⟩
abbrev S_ : Shape := ⟨0, ![]⟩
abbrev S65536x1 : Shape := ⟨2, ![65536, 1]⟩
abbrev S65536x1024 : Shape := ⟨2, ![65536, 1024]⟩
abbrev S16384x4x1024 : Shape := ⟨3, ![16384, 4, 1024]⟩
abbrev S16384x4x1 : Shape := ⟨3, ![16384, 4, 1]⟩
abbrev S16384 : Shape := ⟨1, ![16384]⟩
abbrev S16384x1 : Shape := ⟨2, ![16384, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S65536, .i32⟩
  | .hbm, ⟨2, _⟩ => ⟨S16384x1024, .f32⟩
  | .hbm, ⟨3, _⟩ => ⟨S16384x128, .f32⟩
  | .hbm, ⟨4, _⟩ => ⟨S1024, .f32⟩
  | .hbm, ⟨5, _⟩ => ⟨S16384x4, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536x1024, .f32⟩
  | .hbm, ⟨15, _⟩ => ⟨S16384x4x1024, .f32⟩
  | .hbm, ⟨16, _⟩ => ⟨S16384x4x1, .f32⟩
  | .hbm, ⟨17, _⟩ => ⟨S16384x4x1024, .f32⟩
  | .hbm, ⟨18, _⟩ => ⟨S16384x4x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.StickBreaking.lean ====
/-
  Stick-breaking attention of one query over the extended reals: the weights, the mixture, and the two spellings of
  each that the kernel and the reference compute. Nothing here mentions a program.
-/
module

public import Idealize.ShloMosaic.PureOps.Ideal

@[expose] public section

noncomputable section

namespace Cert.StickBreaking

open Idealize.ShloMosaic
open scoped BigOperators

/-- `softplus x = max x 0 + log (1 + exp (-|x|))`, the stable spelling both programs use. -/
def sp (x : EReal) : EReal := max x 0 + Ideal.log (1 + Ideal.exp (-(max x (-x))))

/-- The logarithm of what key `s` leaves of the stick of query `t`: `-softplus z` at an earlier key, 0 at the others. -/
def logKeep (z : ℕ → EReal) (t s : ℕ) : EReal := if s < t then -(sp (z s)) else 0

/-- The logarithm of what the keys strictly after `s` leave together. -/
def later (z : ℕ → EReal) (t s : ℕ) : EReal := ∑ j ∈ Finset.Ico (s + 1) 2048, logKeep z t j

/-- The weight of key `s` for query `t`: `σ(z_s)` times the product over later keys of `1 - σ(z_j)`. -/
def weight (z : ℕ → EReal) (t s : ℕ) : EReal := if s < t then Ideal.exp ((z s - sp (z s)) + later z t s) else 0

/-- The attention's output at one lane: the values mixed with the weights. -/
def mix (z v : ℕ → EReal) (t : ℕ) : EReal := ∑ s ∈ Finset.range 2048, weight z t s * v s

theorem exp_coe (r : ℝ) : Ideal.exp (r : EReal) = ((Real.exp r : ℝ) : EReal) := rfl
theorem exp_bot : Ideal.exp ⊥ = 0 := rfl
theorem log_coe (r : ℝ) (h : 0 < r) : Ideal.log (r : EReal) = ((Real.log r : ℝ) : EReal) := if_neg (not_le.mpr h)
theorem coe_max (a b : ℝ) : ((max a b : ℝ) : EReal) = max (a : EReal) (b : EReal) :=
  EReal.coe_strictMono.monotone.map_max

theorem exp_nonneg (x : EReal) : 0 ≤ Ideal.exp x := by
  induction x using EReal.rec with
  | bot => exact le_of_eq exp_bot.symm
  | top => exact (le_top : (0 : EReal) ≤ ⊤)
  | coe r => rw [exp_coe]; exact_mod_cast Real.exp_nonneg r

theorem log_one_add_nonneg {x : EReal} (hx : 0 ≤ x) : 0 ≤ Ideal.log (1 + x) := by
  induction x using EReal.rec with
  | bot => simp at hx
  | top => rw [EReal.add_top_of_ne_bot (by decide)]; exact (le_top : (0 : EReal) ≤ ⊤)
  | coe r =>
    have hr : 0 ≤ r := by exact_mod_cast hx
    rw [show (1 : EReal) + (r : EReal) = ((1 + r : ℝ) : EReal) by push_cast; rfl]
    rw [log_coe _ (by linarith)]
    exact_mod_cast Real.log_nonneg (by linarith)

/-- Softplus is nonnegative everywhere. -/
theorem sp_nonneg (x : EReal) : 0 ≤ sp x :=
  add_nonneg (le_max_right _ _) (log_one_add_nonneg (exp_nonneg _))

theorem logKeep_nonpos (z : ℕ → EReal) (t s : ℕ) : logKeep z t s ≤ 0 := by
  unfold logKeep
  split
  · exact EReal.neg_le_zero.mpr (sp_nonneg _)
  · exact le_rfl

theorem logKeep_of_le {z : ℕ → EReal} {t s : ℕ} (h : t ≤ s) : logKeep z t s = 0 := if_neg (by omega)
theorem weight_of_le {z : ℕ → EReal} {t s : ℕ} (h : t ≤ s) : weight z t s = 0 := if_neg (by omega)

theorem later_nonpos (z : ℕ → EReal) (t s : ℕ) : later z t s ≤ 0 :=
  Finset.sum_nonpos fun j _ => logKeep_nonpos z t j

/-- At a real number softplus is the real softplus. -/
theorem sp_coe (r : ℝ) : sp (r : EReal) = ((max r 0 + Real.log (1 + Real.exp (-(max r (-r)))) : ℝ) : EReal) := by
  unfold sp
  have h1 : max (r : EReal) (-(r : EReal)) = ((max r (-r) : ℝ) : EReal) := by
    rw [← EReal.coe_neg]; exact (coe_max _ _).symm
  have h2 : max (r : EReal) 0 = ((max r 0 : ℝ) : EReal) := by
    rw [← EReal.coe_zero]; exact (coe_max _ _).symm
  have h3 : (1 : EReal) + Ideal.exp (-((max r (-r) : ℝ) : EReal)) = ((1 + Real.exp (-(max r (-r))) : ℝ) : EReal) := by
    rw [← EReal.coe_neg, exp_coe]; push_cast; rfl
  rw [h1, h2, h3, log_coe _ (by have := Real.exp_pos (-(max r (-r))); linarith), ← EReal.coe_add]

theorem sp_top : sp ⊤ = ⊤ := by
  unfold sp
  rw [max_eq_left le_top]
  exact EReal.top_add_of_ne_bot (ne_of_gt (lt_of_lt_of_le (by decide) (log_one_add_nonneg (exp_nonneg _))))

theorem sp_bot : sp ⊥ = 0 := by
  unfold sp
  rw [EReal.neg_bot, max_eq_right bot_le, max_eq_right bot_le, EReal.neg_top]
  rw [exp_bot, add_zero, zero_add, ← EReal.coe_one, log_coe _ (by norm_num), Real.log_one]; rfl

/-- The reference's logarithm of a weight, `log_sigmoid z` plus the inclusive sum of the later logarithms less the
    key's own, is the kernel's `(z - softplus z)` plus the sum over the strictly later keys. Where they differ as
    sums (an infinite score) both are `⊥`. -/
theorem exponent_eq (x L : EReal) (hL : L ≤ 0) : -(sp (-x)) + ((-(sp x) + L) - (-(sp x))) = (x - sp x) + L := by
  induction x using EReal.rec with
  | bot => rw [EReal.neg_bot, sp_top, sp_bot, EReal.neg_top, EReal.bot_add, sub_zero, EReal.bot_add]
  | top =>
    rw [EReal.neg_top, sp_top, sp_bot, EReal.neg_top, EReal.bot_add, EReal.bot_sub, EReal.add_bot, sub_eq_add_neg,
      EReal.neg_top, EReal.add_bot, EReal.bot_add]
  | coe r =>
    rw [← EReal.coe_neg, sp_coe, sp_coe]
    induction L using EReal.rec with
    | top => simp at hL
    | bot => rw [EReal.add_bot, EReal.bot_sub, EReal.add_bot, EReal.add_bot]
    | coe l =>
      have key : r - max r 0 = -(max (-r) 0) := by
        rcases le_total r 0 with h | h
        · rw [max_eq_right h, max_eq_left (by linarith)]; ring
        · rw [max_eq_left h, max_eq_right (by linarith)]; ring
      rw [neg_neg, max_comm (-r) r]
      norm_cast
      linarith

/-- The reference's spelling of a weight: over the inclusive sum `∑_{j ≥ s}`. -/
theorem weight_eq_inclusive (z : ℕ → EReal) (t s : ℕ) (hs : s < 2048) :
    (if s < t then Ideal.exp (-(sp (-(z s))) + ((∑ j ∈ Finset.Ico s 2048, logKeep z t j) - logKeep z t s)) else 0)
      = weight z t s := by
  unfold weight
  split
  · rename_i h
    congr 1
    rw [Finset.sum_eq_sum_Ico_succ_bot hs]
    have hk : logKeep z t s = -(sp (z s)) := if_pos h
    rw [hk]
    exact exponent_eq (z s) _ (later_nonpos z t s)
  · rfl

/-- A value that is not `⊤` is unchanged by splitting off its (vanishing) remainder. -/
theorem add_sub_self {x : EReal} (h : x ≠ ⊤) : x + (x - x) = x := by
  induction x using EReal.rec with
  | bot => simp
  | top => exact absurd rfl h
  | coe r => norm_cast; ring

/-- The sum over the later lanes of a block of 128 keys from `n`, of the two halves of each logarithm against the
    indicator of the later lanes, plus the sum over the later blocks: the sum over all later keys. -/
theorem later_of_block (z : ℕ → EReal) (t n : ℕ) (hn : n + 128 ≤ 2048) (s : Fin 128) :
    (∑ k : Fin 128, logKeep z t (n + k.val) * (if s.val < k.val then (1 : EReal) else 0))
      + (∑ k : Fin 128, (logKeep z t (n + k.val) - logKeep z t (n + k.val)) * (if s.val < k.val then (1 : EReal) else 0))
      + (∑ j ∈ Finset.Ico (n + 128) 2048, logKeep z t j) = later z t (n + s.val) := by
  rw [← Finset.sum_add_distrib]
  have e : ∀ k : Fin 128, logKeep z t (n + k.val) * (if s.val < k.val then (1 : EReal) else 0)
      + (logKeep z t (n + k.val) - logKeep z t (n + k.val)) * (if s.val < k.val then (1 : EReal) else 0)
      = if s.val < k.val then logKeep z t (n + k.val) else 0 := by
    intro k
    split
    · rw [mul_one, mul_one, add_sub_self]
      exact ne_of_lt (lt_of_le_of_lt (logKeep_nonpos z t _) (by decide))
    · rw [mul_zero, mul_zero, add_zero]
  simp only [e]
  rw [Fin.sum_univ_eq_sum_range (fun k => if s.val < k then logKeep z t (n + k) else 0) 128, ← Finset.sum_filter]
  have hs := s.isLt
  unfold later
  rw [← Finset.sum_Ico_consecutive _ (show n + s.val + 1 ≤ n + 128 by omega) hn]
  congr 1
  rw [Finset.sum_Ico_eq_sum_range]
  refine Finset.sum_nbij' (fun k => k - (s.val + 1)) (fun k => s.val + 1 + k) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; omega
  · intro k hk; simp only [Finset.mem_range] at hk; omega
  · intro k hk; simp only [Finset.mem_filter, Finset.mem_range] at hk; congr 1; omega

/-- A block of 128 keys from `n` joined in front of the keys after it. -/
theorem sum_block (f : ℕ → EReal) (n : ℕ) (hn : n + 128 ≤ 2048) :
    (∑ j ∈ Finset.Ico (n + 128) 2048, f j) + (∑ k : Fin 128, f (n + k.val)) = ∑ j ∈ Finset.Ico n 2048, f j := by
  rw [Fin.sum_univ_eq_sum_range (fun k => f (n + k)) 128, add_comm,
    ← Finset.sum_Ico_consecutive _ (show n ≤ n + 128 by omega) hn]
  congr 1
  rw [Finset.sum_Ico_eq_sum_range]
  simp

/-- Nothing is added by keys at or after the query. -/
theorem sum_logKeep_of_le (z : ℕ → EReal) {t n : ℕ} (h : t ≤ n) : (∑ j ∈ Finset.Ico n 2048, logKeep z t j) = 0 :=
  Finset.sum_eq_zero fun j hj => logKeep_of_le (h.trans (Finset.mem_Ico.mp hj).1)

theorem sum_weight_of_le (z v : ℕ → EReal) {t n : ℕ} (h : t ≤ n) :
    (∑ j ∈ Finset.Ico n 2048, weight z t j * v j) = 0 :=
  Finset.sum_eq_zero fun j hj => by rw [weight_of_le (h.trans (Finset.mem_Ico.mp hj).1), zero_mul]

/-- A sum over 128 lanes of which only the lanes of half `h` count is the sum over that half's 64 lanes. -/
theorem sum_half (f : ℕ → EReal) (h : ℕ) (hh : h < 2) :
    (∑ d : Fin 128, if d.val / 64 = h then f d.val else 0) = ∑ e ∈ Finset.range 64, f (h * 64 + e) := by
  rw [Fin.sum_univ_eq_sum_range (fun d => if d / 64 = h then f d else 0) 128, ← Finset.sum_filter]
  refine Finset.sum_nbij' (fun d => d - h * 64) (fun e => h * 64 + e) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; omega
  · intro k hk; simp only [Finset.mem_range] at hk; omega
  · intro k hk; simp only [Finset.mem_filter, Finset.mem_range] at hk; congr 1; omega

end Cert.StickBreaking

end
-- ==== Proof.Trip.lean ====
/- One trip of the kernel's loop over the blocks of keys, read at an index: what it adds to the two carried arrays. -/
module

public import proofs.«01_k».proof.Proof.StickBreaking
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Sb

open Cert.KernelIdeal Cert.KernelIdeal.Gen Idealize.ShloMosaic Idealize.ShloMosaic.TcCoe Cert.StickBreaking

/-! ## The values the loop reads that do not change -/

/-- The row number of every entry of a tile. -/
abbrev rows : IVec S256x128 32 := iota .tc S256x128 32 [0] iota_S256x128_d0_w32
/-- The lane number of every entry of a tile. -/
abbrev lanes : IVec S256x128 32 := iota .tc S256x128 32 [1] iota_S256x128_d1_w32
/-- The number of key blocks a tile of queries looks at, as the kernel computes it. -/
abbrev nBlk (i : grid0.Coords) : BitVec 32 := Scalar.muli (Scalar.addi (BitVec.ofNat 32 (i 2).val) 1#32) 2#32

theorem i2_lt (i : grid0.Coords) : (i 2).val < 8 := (i 2).isLt

/-- The loop runs twice per tile of 256 queries up to and including its own. -/
theorem trips_eq : ∀ i : grid0.Coords, (k0_t1_loop i).trips = 2 * ((i 2).val + 1) := by decide +kernel

/-- The first key of the block that trip `k` handles. -/
def firstKey (i : grid0.Coords) (k : ℕ) : ℕ := (2 * ((i 2).val + 1) - (k + 1)) * 128

theorem off1_eq : ∀ (i : grid0.Coords) (k : Fin (k0_t1_loop i).trips), k0_off1 i k = ![0, firstKey i k.val, 0] := by decide +kernel

theorem firstKey_le (i : grid0.Coords) (k : ℕ) (hk : k < 2 * ((i 2).val + 1)) : firstKey i k + 128 ≤ 2048 := by
  have := i2_lt i
  unfold firstKey
  omega

/-- The block of 128 keys (or values) that trip `k` loads. -/
def keyBlock (i : grid0.Coords) (k : Fin (k0_t1_loop i).trips) (x : Vec Ideal S1x2048x128 .bf16) : Vec Ideal S1x128x128 .bf16 :=
  View.ld x (Rect.unit (s := S1x2048x128) (k0_off1 i k) S1x128x128.size (k0_off1_inb i k))

theorem keyBlock_apply (i : grid0.Coords) (k : Fin (k0_t1_loop i).trips) (x : Vec Ideal S1x2048x128 .bf16) (s d : Fin 128)
    (h : firstKey i k.val + s.val < 2048) :
    keyBlock i k x (ix3 (0 : Fin 1) s d) = x (ix3 (0 : Fin 1) (⟨firstKey i k.val + s.val, h⟩ : Fin 2048) d) := by
  unfold keyBlock
  refine View.ld_unit_apply_of _ _ _ _ _ _ fun a => ?_
  refine Eq.trans ?_ (congrArg (· + _) (congrFun (off1_eq i k) a).symm)
  fin_cases a <;> simp

/-! ## The arrays of one block of keys -/

theorem triangle_word : ∀ (a : Fin 256) (s : Fin 128),
    IntOp.cmpi CmpIPredicate.sgt (Scalar.select (IntOp.cmpi CmpIPredicate.sge (BitVec.ofNat 32 a.val) 128#32)
      (IntOp.subi (BitVec.ofNat 32 a.val) 128#32) (BitVec.ofNat 32 a.val)) (BitVec.ofNat 32 s.val)
      = if s.val < a.val % 128 then 1#1 else 0#1 := by decide +kernel

/-- The triangle the kernel multiplies by: one where the row's key, in either half, is after the lane's. -/
theorem triangle_apply (a : Fin 256) (s : Fin 128) : k0_pay34 (F := Ideal) (ix2 a s) = if s.val < a.val % 128 then 1 else 0 := by
  pointwise [k0_pay34]
  rw [triangle_word]
  split
  · show (((BitVec.setWidth 32 1#1).toInt : ℝ) : EReal) = 1
    norm_num
  · show (((BitVec.setWidth 32 0#1).toInt : ℝ) : EReal) = 0
    norm_num

/-- The scores of a tile of queries against the keys of block `k`. -/
theorem score_apply (Q : FVec Ideal S256x128 .bf16) (kb : Vec Ideal S1x128x128 .bf16) (r : Fin 256) (s : Fin 128) :
    k0_pay10 Q kb (ix2 r s) = (∑ d : Fin 128, Q (ix2 r d) * kb (ix3 (0 : Fin 1) s d)) * Ideal.ofBits .f32 0x3E000000#32 := by
  pointwise [k0_pay10]

theorem sp_apply (Q : FVec Ideal S256x128 .bf16) (kb : Vec Ideal S1x128x128 .bf16) (r : Fin 256) (s : Fin 128) :
    k0_pay12 Q kb (ix2 r s) = sp (k0_pay10 Q kb (ix2 r s)) := by
  pointwise [k0_pay12]
  rw [sp, zero_sub]
  rfl

theorem slt_small (a b c d : ℕ) (h1 : a + b < 4096) (h2 : c + d < 4096) :
    IntOp.cmpi CmpIPredicate.slt (IntOp.addi (BitVec.ofNat 32 a) (BitVec.ofNat 32 b)) (IntOp.addi (BitVec.ofNat 32 c) (BitVec.ofNat 32 d))
      = if a + b < c + d then 1#1 else 0#1 := by
  have e : ∀ x y : ℕ, IntOp.addi (BitVec.ofNat 32 x) (BitVec.ofNat 32 y) = BitVec.ofNat 32 (x + y) := fun x y => (BitVec.ofNat_add x y).symm
  have t : ∀ x : ℕ, x < 4096 → (BitVec.ofNat 32 x).toInt = (x : ℤ) := by
    intro x hx
    rw [BitVec.toInt_eq_toNat_of_lt] <;> rw [BitVec.toNat_ofNat, Nat.mod_eq_of_lt (by omega)]
    omega
  rw [e, e]
  by_cases h : a + b < c + d
  · have h' : (a : ℤ) + b < c + d := by exact_mod_cast h
    simp [IntOp.cmpi, BitVec.slt, t _ h1, t _ h2, h, h']
  · have h' : ¬(a : ℤ) + b < c + d := by exact_mod_cast h
    simp [IntOp.cmpi, BitVec.slt, t _ h1, t _ h2, h, h']

theorem firstKey_word : ∀ (i : grid0.Coords) (k : Fin (k0_t1_loop i).trips),
    Scalar.muli (Scalar.subi (Scalar.subi (nBlk i) 1#32) (Scf.iv 0#32 1#32 k.val)) 128#32 = BitVec.ofNat 32 (firstKey i k.val) := by
  decide +kernel

theorem tile_word : ∀ i : grid0.Coords, Scalar.muli (BitVec.ofNat 32 (i 2).val) 256#32 = BitVec.ofNat 32 ((i 2).val * 256) := by
  decide +kernel

/-- The causal mask of block `k`. -/
theorem mask_apply (i : grid0.Coords) (k : Fin (k0_t1_loop i).trips) (r : Fin 256) (s : Fin 128) :
    k0_pay11 i (BitVec.ofNat 32 (i 2).val) rows lanes (nBlk i) 0#32 1#32 k (ix2 r s)
      = if firstKey i k.val + s.val < (i 2).val * 256 + r.val then 1#1 else 0#1 := by
  have h := i2_lt i
  have hk := firstKey_le i k.val (trips_eq i ▸ k.isLt)
  pointwise [k0_pay11]
  rw [firstKey_word, tile_word]
  exact slt_small _ _ _ _ (by omega) (by omega)

/-- The keys' logarithms of what they leave, masked. -/
theorem keep_apply (i : grid0.Coords) (k : Fin (k0_t1_loop i).trips) (Q : FVec Ideal S256x128 .bf16) (kb : Vec Ideal S1x128x128 .bf16)
    (r : Fin 256) (s : Fin 128) :
    k0_pay13 i (BitVec.ofNat 32 (i 2).val) rows lanes (nBlk i) Q 0#32 1#32 k kb (ix2 r s)
      = if firstKey i k.val + s.val < (i 2).val * 256 + r.val then -(sp (k0_pay10 Q kb (ix2 r s))) else 0 := by
  pointwise [k0_pay13]
  rw [mask_apply, sp_apply, zero_sub]
  split <;> rfl

/-- The weights of the keys, before the mask. -/
theorem weight_apply (i : grid0.Coords) (k : Fin (k0_t1_loop i).trips) (Q : FVec Ideal S256x128 .bf16) (kb : Vec Ideal S1x128x128 .bf16)
    (c : FVec Ideal S256x1 .f32) (r : Fin 256) (s : Fin 128) :
    k0_pay14 (F := Ideal) i (BitVec.ofNat 32 (i 2).val) rows lanes k0_pay34 (nBlk i) Q 0#32 1#32 k c kb (ix2 r s)
      = Ideal.exp ((k0_pay10 Q kb (ix2 r s) - sp (k0_pay10 Q kb (ix2 r s)))
          + ((∑ x : Fin 128, k0_pay13 i (BitVec.ofNat 32 (i 2).val) rows lanes (nBlk i) Q 0#32 1#32 k kb (ix2 r x) * (if s.val < x.val then (1 : EReal) else 0))
            + (∑ x : Fin 128, (k0_pay13 i (BitVec.ofNat 32 (i 2).val) rows lanes (nBlk i) Q 0#32 1#32 k kb (ix2 r x)
                - k0_pay13 i (BitVec.ofNat 32 (i 2).val) rows lanes (nBlk i) Q 0#32 1#32 k kb (ix2 r x)) * (if s.val < x.val then (1 : EReal) else 0))
            + c (ix2 r 0))) := by
  pointwise [k0_pay14]
  simp only [triangle_apply, sp_apply]
  have e : ∀ x : Fin 128, x.val % 128 = x.val := fun x => Nat.mod_eq_of_lt x.isLt
  have e' : ∀ x : Fin 128, (128 + x.val) % 128 = x.val := fun x => by omega
  simp only [e, e']

/-! ## One trip -/

/-- What a trip makes of the two carried arrays: the sums of the keys' logarithms so far, and the weighed values so far. -/
def step (i : grid0.Coords) (Q : FVec Ideal S256x128 .bf16) (x1 x2 : Vec Ideal S1x2048x128 .bf16) (k : Fin (k0_t1_loop i).trips)
    (acc : FVec Ideal S256x1 .f32 × FVec Ideal S256x128 .f32) : FVec Ideal S256x1 .f32 × FVec Ideal S256x128 .f32 :=
  (k0_pay40 acc.1 (k0_pay13 i (BitVec.ofNat 32 (i 2).val) rows lanes (nBlk i) Q 0#32 1#32 k (keyBlock i k x1)),
   k0_pay39 acc.2 (k0_pay9 (keyBlock i k x2)) (k0_pay11 i (BitVec.ofNat 32 (i 2).val) rows lanes (nBlk i) 0#32 1#32 k)
     (k0_pay14 i (BitVec.ofNat 32 (i 2).val) rows lanes k0_pay34 (nBlk i) Q 0#32 1#32 k acc.1 (keyBlock i k x1)))

/-- The scores of row `r` of a tile against every key. -/
def rowScore (Q : FVec Ideal S256x128 .bf16) (x1 : Vec Ideal S1x2048x128 .bf16) (r : Fin 256) (s : ℕ) : EReal :=
  if h : s < 2048 then (∑ d : Fin 128, Q (ix2 r d) * x1 (ix3 (0 : Fin 1) (⟨s, h⟩ : Fin 2048) d)) * Ideal.ofBits .f32 0x3E000000#32 else 0

/-- Lane `l` of every value. -/
def valLane (x2 : Vec Ideal S1x2048x128 .bf16) (l : Fin 128) (s : ℕ) : EReal :=
  if h : s < 2048 then x2 (ix3 (0 : Fin 1) (⟨s, h⟩ : Fin 2048) l) else 0

theorem score_block (i : grid0.Coords) (k : Fin (k0_t1_loop i).trips) (Q : FVec Ideal S256x128 .bf16) (x1 : Vec Ideal S1x2048x128 .bf16)
    (r : Fin 256) (s : Fin 128) : k0_pay10 Q (keyBlock i k x1) (ix2 r s) = rowScore Q x1 r (firstKey i k.val + s.val) := by
  have hk := firstKey_le i k.val (trips_eq i ▸ k.isLt)
  have h : firstKey i k.val + s.val < 2048 := by omega
  rw [score_apply, rowScore, dif_pos h]
  simp only [keyBlock_apply i k x1 s _ h]

theorem keep_block (i : grid0.Coords) (k : Fin (k0_t1_loop i).trips) (Q : FVec Ideal S256x128 .bf16) (x1 : Vec Ideal S1x2048x128 .bf16)
    (r : Fin 256) (s : Fin 128) :
    k0_pay13 i (BitVec.ofNat 32 (i 2).val) rows lanes (nBlk i) Q 0#32 1#32 k (keyBlock i k x1) (ix2 r s)
      = logKeep (rowScore Q x1 r) ((i 2).val * 256 + r.val) (firstKey i k.val + s.val) := by
  rw [keep_apply, score_block, logKeep]

/-- What the trip leaves in the first array: the sum from the block's first key on. -/
theorem step_fst (i : grid0.Coords) (Q : FVec Ideal S256x128 .bf16) (x1 x2 : Vec Ideal S1x2048x128 .bf16) (k : Fin (k0_t1_loop i).trips)
    (acc : FVec Ideal S256x1 .f32 × FVec Ideal S256x128 .f32) (r : Fin 256)
    (h : acc.1 (ix2 r 0) = ∑ j ∈ Finset.Ico (firstKey i k.val + 128) 2048, logKeep (rowScore Q x1 r) ((i 2).val * 256 + r.val) j) :
    (step i Q x1 x2 k acc).1 (ix2 r 0) = ∑ j ∈ Finset.Ico (firstKey i k.val) 2048, logKeep (rowScore Q x1 r) ((i 2).val * 256 + r.val) j := by
  have hk := firstKey_le i k.val (trips_eq i ▸ k.isLt)
  rw [← sum_block _ _ hk, ← h]
  unfold step
  pointwise [k0_pay40]
  simp only [keep_block]

/-- What the trip leaves in the second array: the weighed values from the block's first key on. -/
theorem step_snd (i : grid0.Coords) (Q : FVec Ideal S256x128 .bf16) (x1 x2 : Vec Ideal S1x2048x128 .bf16) (k : Fin (k0_t1_loop i).trips)
    (acc : FVec Ideal S256x1 .f32 × FVec Ideal S256x128 .f32) (r : Fin 256) (l : Fin 128)
    (h : acc.1 (ix2 r 0) = ∑ j ∈ Finset.Ico (firstKey i k.val + 128) 2048, logKeep (rowScore Q x1 r) ((i 2).val * 256 + r.val) j)
    (h' : acc.2 (ix2 r l) = ∑ j ∈ Finset.Ico (firstKey i k.val + 128) 2048,
      weight (rowScore Q x1 r) ((i 2).val * 256 + r.val) j * valLane x2 l j) :
    (step i Q x1 x2 k acc).2 (ix2 r l) = ∑ j ∈ Finset.Ico (firstKey i k.val) 2048,
      weight (rowScore Q x1 r) ((i 2).val * 256 + r.val) j * valLane x2 l j := by
  have hk := firstKey_le i k.val (trips_eq i ▸ k.isLt)
  rw [← sum_block _ _ hk, ← h']
  unfold step
  pointwise [k0_pay39]
  congr 1
  refine Finset.sum_congr rfl fun s _ => ?_
  have hs : firstKey i k.val + s.val < 2048 := by omega
  have hv : k0_pay9 (keyBlock i k x2) (ix2 s l) = valLane x2 l (firstKey i k.val + s.val) := by
    pointwise [k0_pay9]
    rw [keyBlock_apply i k x2 s l hs, valLane, dif_pos hs]
  rw [mask_apply, weight_apply, hv]
  simp only [keep_block, score_block]
  rw [h, later_of_block _ _ _ hk, weight]
  split
  · rfl
  · rw [zero_mul]; rfl

/-! ## All the trips -/

/-- After the trips, from two arrays of zeros, the second array holds the mix of all the values. -/
theorem trips_snd (i : grid0.Coords) (Q : FVec Ideal S256x128 .bf16) (x1 x2 : Vec Ideal S1x2048x128 .bf16)
    (S : ℕ → FVec Ideal S256x1 .f32 × FVec Ideal S256x128 .f32) (h1 : ∀ r, (S 0).1 (ix2 r 0) = 0) (h2 : ∀ r l, (S 0).2 (ix2 r l) = 0)
    (hS : ∀ k : Fin (k0_t1_loop i).trips, S (k.val + 1) = step i Q x1 x2 k (S k.val)) (r : Fin 256) (l : Fin 128) :
    (S (k0_t1_loop i).trips).2 (ix2 r l) = mix (rowScore Q x1 r) (valLane x2 l) ((i 2).val * 256 + r.val) := by
  have hN := trips_eq i
  have key : ∀ k, k ≤ (k0_t1_loop i).trips →
      (S k).1 (ix2 r 0) = (∑ j ∈ Finset.Ico ((2 * ((i 2).val + 1) - k) * 128) 2048, logKeep (rowScore Q x1 r) ((i 2).val * 256 + r.val) j)
      ∧ (S k).2 (ix2 r l) = ∑ j ∈ Finset.Ico ((2 * ((i 2).val + 1) - k) * 128) 2048,
          weight (rowScore Q x1 r) ((i 2).val * 256 + r.val) j * valLane x2 l j := by
    intro k
    induction k with
    | zero =>
      intro _
      rw [h1, h2, sum_logKeep_of_le _ (by omega), sum_weight_of_le _ _ (by omega)]
      exact ⟨rfl, rfl⟩
    | succ k ih =>
      intro hk
      obtain ⟨a, b⟩ := ih (by omega)
      have e : (2 * ((i 2).val + 1) - k) * 128 = firstKey i k + 128 := by unfold firstKey; omega
      rw [e] at a b
      rw [hS ⟨k, by omega⟩]
      exact ⟨step_fst i Q x1 x2 ⟨k, by omega⟩ (S k) r a, step_snd i Q x1 x2 ⟨k, by omega⟩ (S k) r l a b⟩
  have hm := (key _ le_rfl).2
  rw [hm, mix, hN, Nat.sub_self, Nat.zero_mul, Finset.range_eq_Ico]

end Cert.KernelIdeal.Sb

end
-- ==== Proof.Block.lean ====
/- What the kernel leaves in one tile of its result: the mix of the values, head by head. -/
module

public import proofs.«01_k».proof.Proof.Trip

@[expose] public section

set_option maxRecDepth 16384

noncomputable section

namespace Cert.KernelIdeal.Sb

open Cert.KernelIdeal Cert.KernelIdeal.Gen Idealize.ShloMosaic Idealize.ShloMosaic.TcCoe Cert.StickBreaking

/-! ## The loops' trips -/

/-- A trip of the first head's loop is `step` on the queries masked to that head. -/
theorem tripR1 (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S256x128 .bf16) (harg6 : arg6.IsWhole)
    (v1 : FVec Ideal S256x128 .bf16) (v2 : IVec S1x128 32) (v41 : IVec S1x128 32) (c0 : BitVec 32)
    (x1 x2 : Vec Ideal S1x2048x128 .bf16) (k : Fin (k0_t1_loop i).trips) (acc : FVec Ideal S256x1 .f32 × FVec Ideal S256x128 .f32) :
    tripR_k0_t1 Variants.none c none i arg3 harg3 arg4 harg4 arg5 harg5 arg6 harg6 (BitVec.ofNat 32 (i 2).val) v1 v2 rows lanes k0_pay34 (nBlk i) v41 c0
      (harg4.unread x1) (harg5.unread x2) k acc = step i (k0_pay36 v1 v41 c0) x1 x2 k acc := by
  unfold tripR_k0_t1 trip_k0_t1
  dsimp only
  simp only [trip_k0_t1.sl.r, trip_k0_t1.sl.r_1, trip_k0_t1.sl.r_2, trip_k0_t1.sl.r_3,
    View.readAt_eq_ld, harg4.read_unread, harg5.read_unread]
  rfl

/-- A trip of the second head's loop is `step` on the queries masked to that head. -/
theorem tripR3 (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S256x128 .bf16) (harg6 : arg6.IsWhole)
    (v1 : FVec Ideal S256x128 .bf16) (v84 : IVec S256x128 1) (v85 : FVec Ideal S256x128 .bf16)
    (x1 x2 : Vec Ideal S1x2048x128 .bf16) (k : Fin (k0_t3_loop i).trips) (acc : FVec Ideal S256x1 .f32 × FVec Ideal S256x128 .f32) :
    tripR_k0_t3 Variants.none c none i arg3 harg3 arg4 harg4 arg5 harg5 arg6 harg6 (BitVec.ofNat 32 (i 2).val) v1 rows lanes k0_pay34 (nBlk i) v84 v85
      (harg4.unread x1) (harg5.unread x2) k acc = step i (k0_pay1 v1 v84 v85) x1 x2 k acc := by
  unfold tripR_k0_t3 trip_k0_t3
  dsimp only
  simp only [trip_k0_t3.sl.r, trip_k0_t3.sl.r_1, trip_k0_t3.sl.r_2, trip_k0_t3.sl.r_3,
    View.readAt_eq_ld, harg4.read_unread, harg5.read_unread]
  rfl

/-- The remainder loops run no trip. -/
theorem trips2 : ∀ i : grid0.Coords, (k0_t2_loop i).trips = 0 := by decide +kernel

/-! ## The masked queries -/

theorem half_word : ∀ s : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 s.val) 0#32))
                (BitVec.setWidth 32 (IntOp.cmpi CmpIPredicate.slt (BitVec.ofNat 32 s.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 s.val) 64#32) 0#32))
          (IntOp.subi (IntOp.divsi ArithUnit.vector (BitVec.ofNat 32 s.val) 64#32) 1#32)
          (IntOp.divsi ArithUnit.vector (BitVec.ofNat 32 s.val) 64#32))
        0#32) = if s.val / 64 = 0 then 1#1 else 0#1 := by decide +kernel

theorem half_word1 : ∀ s : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 s.val) 0#32))
                (BitVec.setWidth 32 (IntOp.cmpi CmpIPredicate.slt (BitVec.ofNat 32 s.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 s.val) 64#32) 0#32))
          (IntOp.subi (IntOp.divsi ArithUnit.vector (BitVec.ofNat 32 s.val) 64#32) 1#32)
          (IntOp.divsi ArithUnit.vector (BitVec.ofNat 32 s.val) 64#32))
        1#32) = if s.val / 64 = 1 then 1#1 else 0#1 := by decide +kernel

theorem query0_apply (v1 : FVec Ideal S256x128 .bf16) (r : Fin 256) (s : Fin 128) :
    k0_pay36 v1 k0_pay35 0#32 (ix2 r s) = if s.val / 64 = 0 then v1 (ix2 r s) else 0 := by
  pointwise [k0_pay36, k0_pay35]
  rw [half_word]
  split <;> rfl

theorem query1_apply (v1 : FVec Ideal S256x128 .bf16) (r : Fin 256) (s : Fin 128) :
    k0_pay1 v1 (k0_pay43 (iota .tc S1x128 32 [1] iota_S1x128_d1_w32)) (k0_pay44 (F := Ideal)) (ix2 r s)
      = if s.val / 64 = 1 then v1 (ix2 r s) else 0 := by
  pointwise [k0_pay1, k0_pay43, k0_pay44]
  rw [half_word1]
  split <;> rfl

/-! ## The tile -/

theorem hz2 : (![0, 0] : Fin 2 → Nat) = fun _ => 0 := funext fun a => by fin_cases a <;> rfl
theorem hz3 : (![0, 0, 0] : Fin 3 → Nat) = fun _ => 0 := funext fun a => by fin_cases a <;> rfl

theorem lane_word : ∀ s : Fin 128, IntOp.cmpi CmpIPredicate.slt (BitVec.ofNat 32 s.val) 64#32 = if s.val / 64 = 0 then 1#1 else 0#1 := by
  decide +kernel

/-- The scores of row `r` of a tile against every key, by the head of lane `l`. -/
def headScore (x0 : Vec Ideal S1x256x128 .bf16) (x1 : Vec Ideal S1x2048x128 .bf16) (r : Fin 256) (h : ℕ) (s : ℕ) : EReal :=
  if hs : s < 2048 then (∑ d : Fin 128, (if d.val / 64 = h then x0 (ix3 (0 : Fin 1) r d) else 0) * x1 (ix3 (0 : Fin 1) (⟨s, hs⟩ : Fin 2048) d))
    * Ideal.ofBits .f32 0x3E000000#32 else 0

/-- The tile that the kernel leaves of blocks `x0` of queries, `x1` of keys and `x2` of values. -/
theorem out_apply (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S256x128 .bf16) (harg6 : arg6.IsWhole)
    (x0 : Vec Ideal S1x256x128 .bf16) (x1 x2 : Vec Ideal S1x2048x128 .bf16) (r : Fin 256) (l : Fin 128) :
    out0_A_3 c i arg3 harg3 arg4 harg4 arg5 harg5 arg6 harg6 x0 x1 x2 (ix2 r l)
      = mix (headScore x0 x1 r (l.val / 64)) (valLane x2 l) ((i 2).val * 256 + r.val) := by
  unfold out0_A_3
  rw [View.read_writes_eq_canon _ _ _ (cover0_A_3 c i arg3 harg3 arg4 harg4 arg5 harg5 arg6 harg6 x0 x1 x2)]
  unfold kernelRun0_A
  dsimp only
  sl_unfold_words
  rw [View.canon_unit_zero (S := S256x128) hz2]
  simp only [View.readAt_eq_ld, harg3.read_unread, View.ld_unit_zero (S := S1x256x128) hz3]
  have hq : ∀ (r : Fin 256) (d : Fin 128), k0_pay33 x0 (ix2 r d) = x0 (ix3 (0 : Fin 1) r d) := by
    intro r d
    pointwise [k0_pay33]
  have z2 := trips2 i
  unfold Scf.Loop.trips at z2
  pointwise [k0_pay8]
  rw [lane_word]
  dsimp only at z2
  rw [z2]
  have e0 : rowScore (k0_pay36 (k0_pay33 x0) k0_pay35 0#32) x1 r = headScore x0 x1 r 0 := by
    funext s
    simp only [rowScore, headScore, query0_apply, hq]
  have e1 : rowScore (k0_pay1 (k0_pay33 x0) (k0_pay43 (iota .tc S1x128 32 [1] iota_S1x128_d1_w32)) (k0_pay44 (F := Ideal))) x1 r = headScore x0 x1 r 1 := by
    funext s
    unfold rowScore headScore
    split
    · congr 1
      refine Finset.sum_congr rfl fun d _ => ?_
      rw [query1_apply, hq]
    · rfl
  by_cases hl : l.val / 64 = 0
  · have hw : (if l.val / 64 = 0 then 1#1 else 0#1) = 1#1 := if_pos hl
    simp only [hw, hl, ← e0]
    refine trips_snd i _ x1 x2 (fun k => st_k0_t1 Variants.none c none i arg3 harg3 arg4 harg4 arg5 harg5 arg6 harg6 (BitVec.ofNat 32 (i 2).val)
      (k0_pay33 x0) (iota .tc S1x128 32 [1] iota_S1x128_d1_w32) rows lanes k0_pay34 (nBlk i) k0_pay35 0#32 (harg4.unread x1) (harg5.unread x2)
      (k0_pay37, k0_pay38) k) ?_ ?_ ?_ r l
    · intro r; pointwise [st_k0_t1, k0_pay37]
    · intro r l; pointwise [st_k0_t1, k0_pay38]
    · intro k
      exact (st_k0_t1_succ ..).trans (tripR1 ..)
  · have hl1 : l.val / 64 = 1 := by omega
    have hw : (if l.val / 64 = 0 then 1#1 else 0#1) = 0#1 := if_neg hl
    simp only [hw]
    simp only [hl1, ← e1]
    refine trips_snd i _ x1 x2 (fun k => st_k0_t3 Variants.none c none i arg3 harg3 arg4 harg4 arg5 harg5 arg6 harg6 (BitVec.ofNat 32 (i 2).val)
      (k0_pay33 x0) rows lanes k0_pay34 (nBlk i) (k0_pay43 (iota .tc S1x128 32 [1] iota_S1x128_d1_w32)) (k0_pay44 (F := Ideal)) (harg4.unread x1) (harg5.unread x2)
      (k0_pay2, k0_pay3) k) ?_ ?_ ?_ r l
    · intro r; pointwise [st_k0_t3, k0_pay2]
    · intro r l; pointwise [st_k0_t3, k0_pay3]
    · intro k
      exact (st_k0_t3_succ ..).trans (tripR3 ..)

end Cert.KernelIdeal.Sb

end
-- ==== Proof.Attention.lean ====
/- The stick-breaking attention of one array of queries, keys and values, as a function of the array's entries. -/
module

public import proofs.«01_k».proof.Proof.StickBreaking

@[expose] public section

noncomputable section

namespace Cert.StickBreaking

open Idealize.ShloMosaic

/-- Entry `(a, r, c)` of the argument, 0 outside it. -/
def entry (X : Fin 10 → Fin 16384 → Fin 512 → EReal) (a r c : ℕ) : EReal :=
  if h : a < 10 ∧ r < 16384 ∧ c < 512 then X ⟨a, h.1⟩ ⟨r, h.2.1⟩ ⟨c, h.2.2⟩ else 0

/-- The scaled score of query `t` and key `s` of sequence `b` in head `h`: plane 0 holds the queries, plane 1 the keys. -/
def score (X : Fin 10 → Fin 16384 → Fin 512 → EReal) (b h t s : ℕ) : EReal :=
  (∑ d ∈ Finset.range 64, entry X 0 (b * 2048 + t) (h * 64 + d) * entry X 1 (b * 2048 + s) (h * 64 + d))
    * Ideal.ofBits .f32 0x3E000000#32

/-- The attention's output at row `r` and lane `c`: plane 2 holds the values. -/
def attended (X : Fin 10 → Fin 16384 → Fin 512 → EReal) (r c : ℕ) : EReal :=
  mix (score X (r / 2048) (c / 64) (r % 2048)) (fun s => entry X 2 (r / 2048 * 2048 + s) c) (r % 2048)

theorem entry_fin (X : Fin 10 → Fin 16384 → Fin 512 → EReal) (a : Fin 10) (r : Fin 16384) (c : Fin 512) :
    entry X a.val r.val c.val = X a r c := dif_pos ⟨a.isLt, r.isLt, c.isLt⟩

/-- The mix reads scores and values of the 2048 keys alone. -/
theorem mix_congr {z z' v v' : ℕ → EReal} (t : ℕ) (hz : ∀ s, s < 2048 → z s = z' s) (hv : ∀ s, s < 2048 → v s = v' s) :
    mix z v t = mix z' v' t := by
  have hk : ∀ s, s < 2048 → logKeep z t s = logKeep z' t s := fun s hs => by unfold logKeep; rw [hz s hs]
  unfold mix
  refine Finset.sum_congr rfl fun s hs => ?_
  have hs := Finset.mem_range.mp hs
  have hl : later z t s = later z' t s := Finset.sum_congr rfl fun j hj => hk j (Finset.mem_Ico.mp hj).2
  unfold weight
  rw [hl, hz s hs, hv s hs]

end Cert.StickBreaking

end
-- ==== Proof.Array.lean ====
/- What the kernel leaves in its whole result: the stick-breaking attention of its argument. -/
module

public import proofs.«01_k».proof.Proof.Block
public import proofs.«01_k».proof.Proof.Attention
public import proofs.«01_k».proof.Proof.Gen.KernelIdeal.Value
public import Idealize.ShloMosaic.Lib.Pipeline.ValueKit
public import Idealize.ShloMosaic.Lib.Pipeline.Covers

@[expose] public section

set_option maxRecDepth 16384

noncomputable section

namespace Cert.KernelIdeal.Sb

open Cert.KernelIdeal Cert.KernelIdeal.Gen Idealize.ShloMosaic Idealize.ShloMosaic.TcCoe Cert.StickBreaking

variable (m : (ℓ : Loc nD τ sig) → Buf (Elt Ideal) ℓ)

/-- The argument's entries. -/
abbrev argEntries (c : Dev nD) : Fin 10 → Fin 16384 → Fin 512 → EReal :=
  fun a r l => (m ((c.tc : Thread nD τ).loc main_arg0) : Vec Ideal S10x16384x512 .bf16) (ix3 a r l)

/-- The block of each window at each grid point. -/
theorem idx : ∀ t : Fin cfg0.N, win0_0.index t = ![0, (grid0.coords t 0).val * 8 + (grid0.coords t 2).val, (grid0.coords t 1).val]
    ∧ win0_1.index t = ![1, (grid0.coords t 0).val, (grid0.coords t 1).val]
    ∧ win0_2.index t = ![2, (grid0.coords t 0).val, (grid0.coords t 1).val]
    ∧ win0_3.index t = ![(grid0.coords t 0).val * 8 + (grid0.coords t 2).val, (grid0.coords t 1).val] :=
  (by decide +kernel : ∀ t : Fin grid0.N, _)

theorem coord0 (i : grid0.Coords) : (i 0).val < 8 := (i 0).isLt
theorem coord1 (i : grid0.Coords) : (i 1).val < 4 := (i 1).isLt
theorem coord2 (i : grid0.Coords) : (i 2).val < 8 := (i 2).isLt

theorem covers3 : (cfg0.win 3).Covers := by decide +kernel

/-- A block of queries read at an entry. -/
theorem queries_apply (c : Dev nD) (t : Fin cfg0.N) (r : Fin 256) (d : Fin 128) :
    (iblk m c 0 t : Vec Ideal S1x256x128 .bf16) (ix3 (0 : Fin 1) r d)
      = entry (argEntries m c) 0 (((grid0.coords t 0).val * 8 + (grid0.coords t 2).val) * 256 + r.val) ((grid0.coords t 1).val * 128 + d.val) := by
  have h0 := coord0 (grid0.coords t)
  have h1 := coord1 (grid0.coords t)
  have h2 := coord2 (grid0.coords t)
  unfold entry
  rw [dif_pos ⟨by omega, by omega, by omega⟩]
  blk_ext [iblk, V, idx t]

/-- A block of keys read at an entry. -/
theorem keys_apply (c : Dev nD) (t : Fin cfg0.N) (s : Fin 2048) (d : Fin 128) :
    (iblk m c 1 t : Vec Ideal S1x2048x128 .bf16) (ix3 (0 : Fin 1) s d)
      = entry (argEntries m c) 1 ((grid0.coords t 0).val * 2048 + s.val) ((grid0.coords t 1).val * 128 + d.val) := by
  have h0 := coord0 (grid0.coords t)
  have h1 := coord1 (grid0.coords t)
  unfold entry
  rw [dif_pos ⟨by omega, by omega, by omega⟩]
  blk_ext [iblk, V, idx t]

/-- A block of values read at an entry. -/
theorem values_apply (c : Dev nD) (t : Fin cfg0.N) (s : Fin 2048) (d : Fin 128) :
    (iblk m c 2 t : Vec Ideal S1x2048x128 .bf16) (ix3 (0 : Fin 1) s d)
      = entry (argEntries m c) 2 ((grid0.coords t 0).val * 2048 + s.val) ((grid0.coords t 1).val * 128 + d.val) := by
  have h0 := coord0 (grid0.coords t)
  have h1 := coord1 (grid0.coords t)
  unfold entry
  rw [dif_pos ⟨by omega, by omega, by omega⟩]
  blk_ext [iblk, V, idx t]

/-- The masked scores of a tile are the scores of one head. -/
theorem headScore_eq (c : Dev nD) (t : Fin cfg0.N) (r : Fin 256) (h s : ℕ) (hh : h < 2) (hs : s < 2048) :
    headScore (iblk m c 0 t) (iblk m c 1 t) r h s
      = score (argEntries m c) (grid0.coords t 0).val ((grid0.coords t 1).val * 2 + h) ((grid0.coords t 2).val * 256 + r.val) s := by
  unfold headScore score
  rw [dif_pos hs]
  congr 1
  have e : ∀ d : Fin 128, (if d.val / 64 = h then (show EReal from iblk m c 0 t (ix3 (0 : Fin 1) r d)) else 0)
        * (show EReal from iblk m c 1 t (ix3 (0 : Fin 1) (⟨s, hs⟩ : Fin 2048) d))
      = if d.val / 64 = h then
          (fun d => entry (argEntries m c) 0 (((grid0.coords t 0).val * 8 + (grid0.coords t 2).val) * 256 + r.val) ((grid0.coords t 1).val * 128 + d)
            * entry (argEntries m c) 1 ((grid0.coords t 0).val * 2048 + s) ((grid0.coords t 1).val * 128 + d)) d.val else 0 := by
    intro d
    refine (congrArg₂ (fun x y : EReal => (if d.val / 64 = h then x else 0) * y) (queries_apply m c t r d) (keys_apply m c t ⟨s, hs⟩ d)).trans ?_
    dsimp only
    split
    · rfl
    · rw [zero_mul]
  refine (Finset.sum_congr rfl fun d _ => e d).trans ((sum_half (fun d => entry (argEntries m c) 0 (((grid0.coords t 0).val * 8 + (grid0.coords t 2).val) * 256 + r.val) ((grid0.coords t 1).val * 128 + d)
      * entry (argEntries m c) 1 ((grid0.coords t 0).val * 2048 + s) ((grid0.coords t 1).val * 128 + d)) h hh).trans (Finset.sum_congr rfl fun d _ => ?_))
  have e1 : ((grid0.coords t 0).val * 8 + (grid0.coords t 2).val) * 256 + r.val
      = (grid0.coords t 0).val * 2048 + ((grid0.coords t 2).val * 256 + r.val) := by omega
  have e2 : (grid0.coords t 1).val * 128 + (h * 64 + d) = ((grid0.coords t 1).val * 2 + h) * 64 + d := by omega
  simp only [e1, e2]

/-- The result after the run is the attention of the argument. -/
theorem final (c : Dev nD) : (dats m 0 c).arrAt 3 cfg0.N
    = fun i => attended (argEntries m c) (i 0).val (i 1).val := by
  refine (dats m 0 c).arrAt_eq_of_covers 3 _ covers3 fun t _ y => ?_
  have h0 := coord0 (grid0.coords t)
  have h1 := coord1 (grid0.coords t)
  have h2 := coord2 (grid0.coords t)
  blk_simp [idx t]
  rw [after0_3]
  idx_vars y
  have d1 : (((grid0.coords t 0).val * 8 + (grid0.coords t 2).val) * 256 + y0.val) / 2048 = (grid0.coords t 0).val := by omega
  have d2 : (((grid0.coords t 0).val * 8 + (grid0.coords t 2).val) * 256 + y0.val) % 2048 = (grid0.coords t 2).val * 256 + y0.val := by omega
  have d3 : ((grid0.coords t 1).val * 128 + y1.val) / 64 = (grid0.coords t 1).val * 2 + y1.val / 64 := by omega
  refine (out_apply c (grid0.coords t) (ms0_0 t) (hs0_0 t) (ms0_1 t) (hs0_1 t) (ms0_2 t) (hs0_2 t) (ms0_3 t) (hs0_3 t)
    (iblk m c 0 t) (iblk m c 1 t) (iblk m c 2 t) y0 y1).trans ?_
  unfold attended
  rw [d1, d2, d3]
  refine mix_congr _ (fun s hs => headScore_eq m c t y0 _ s (by omega) hs) fun s hs => ?_
  rw [valLane, dif_pos hs]
  exact values_apply m c t ⟨s, hs⟩ y1

end Cert.KernelIdeal.Sb

end
-- ==== Proof.RefRun.lean ====
/- What the reference program computes, operation by operation: its operations in seven groups, and the array each group
   leaves as a function of the arrays before it. -/
module

public import proofs.«01_k».proof.Proof.Gen.ReferenceIdeal
public import Idealize.ShloMosaic.Lib.StableHlo.Run

@[expose] public section

noncomputable section

namespace Cert.ReferenceIdeal.Sb

open Cert.ReferenceIdeal Cert.ReferenceIdeal.Gen Idealize.ShloMosaic Idealize.ShloMosaic.TcCoe Idealize.SL.Sem Idealize.ShloMosaic.StableHlo

variable {F : FTy → Type} [FloatOps F]

/-! ## The arrays -/

/-- The queries of all heads: plane 0 of the argument, head by head. -/
def qHeads (X : Vec F S10x16384x512 .bf16) : Vec F S8x8x2048x64 .f32 :=
  transpose S8x8x2048x64 [0, 2, 1, 3] (shapeCast S8x2048x8x64 (shapeCast S8x2048x512 (shapeCast S16384x512
    (extractStridedSlice S1x16384x512 ![0, 0, 0] (extf (F := F) .f32 X bitsLt_bf16_f32) slices_S10x16384x512_S1x16384x512_0_0_0)
    shapeCasts_S1x16384x512_S16384x512) shapeCasts_S16384x512_S8x2048x512) shapeCasts_S8x2048x512_S8x2048x8x64)
    transposes_S8x2048x8x64_S8x8x2048x64_0_2_1_3

/-- The keys of all heads: plane 1. -/
def kHeads (X : Vec F S10x16384x512 .bf16) : Vec F S8x8x2048x64 .f32 :=
  transpose S8x8x2048x64 [0, 2, 1, 3] (shapeCast S8x2048x8x64 (shapeCast S8x2048x512 (shapeCast S16384x512
    (extractStridedSlice S1x16384x512 ![1, 0, 0] (extf (F := F) .f32 X bitsLt_bf16_f32) slices_S10x16384x512_S1x16384x512_1_0_0)
    shapeCasts_S1x16384x512_S16384x512) shapeCasts_S16384x512_S8x2048x512) shapeCasts_S8x2048x512_S8x2048x8x64)
    transposes_S8x2048x8x64_S8x8x2048x64_0_2_1_3

/-- The values of all heads: plane 2. -/
def vHeads (X : Vec F S10x16384x512 .bf16) : Vec F S8x8x2048x64 .f32 :=
  transpose S8x8x2048x64 [0, 2, 1, 3] (shapeCast S8x2048x8x64 (shapeCast S8x2048x512 (shapeCast S16384x512
    (extractStridedSlice S1x16384x512 ![2, 0, 0] (extf (F := F) .f32 X bitsLt_bf16_f32) slices_S10x16384x512_S1x16384x512_2_0_0)
    shapeCasts_S1x16384x512_S16384x512) shapeCasts_S16384x512_S8x2048x512) shapeCasts_S8x2048x512_S8x2048x8x64)
    transposes_S8x2048x8x64_S8x8x2048x64_0_2_1_3

/-- The scaled scores of all pairs of a query and a key. -/
def scores (q k : Vec F S8x8x2048x64 .f32) : Vec F S8x8x2048x2048 .f32 :=
  mulf (F := F) (φ := .f32) (Host.dotGeneral (F := F) dot_S8x8x2048x64_S8x8x2048x64_S8x8x2048x2048_3_3_2_2_01_01 none q k)
    (broadcastInDim S8x8x2048x2048 ![] bcast_S_S8x8x2048x2048 (constant (F := F) S_ .f32 0x3E000000#32))

/-- Where the key is strictly before the query. -/
def before : IVec S2048x2048 1 :=
  cmpi .slt
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The array of zeros. -/
def zeros : Vec F S8x8x2048x2048 .f32 :=
  broadcastInDim S8x8x2048x2048 ![] bcast_S_S8x8x2048x2048 (constant (F := F) S_ .f32 0x00000000#32)

/-- Softplus of an array, as the reference spells it. -/
def softplus (z : Vec F S8x8x2048x2048 .f32) : Vec F S8x8x2048x2048 .f32 :=
  select (cmpf (F := F) (φ := .f32) .une (subf (F := F) (φ := .f32) z zeros) (subf (F := F) (φ := .f32) z zeros)) (addf (F := F) (φ := .f32) z zeros)
    (addf (F := F) (φ := .f32) (maximumf (F := F) (φ := .f32) z zeros)
      (Host.log1p (F := F) (φ := .f32) (Host.exp (F := F) (φ := .f32) (Host.negf (F := F) (φ := .f32) (Host.absf (F := F) (φ := .f32) (subf (F := F) (φ := .f32) z zeros))))))

/-- An array where the mask holds, zero elsewhere. -/
def masked (w : IVec S2048x2048 1) (x : Vec F S8x8x2048x2048 .f32) : Vec F S8x8x2048x2048 .f32 :=
  select (broadcastInDim S8x8x2048x2048 ![2, 3] bcast_S2048x2048_S8x8x2048x2048_2_3 w) x zeros

/-- The sums over the keys from each key on. -/
def sumsFrom (x : Vec F S8x8x2048x2048 .f32) : Vec F S8x8x2048x2048 .f32 :=
  Host.reduceWindowAdd (F := F) (φ := .f32) ![1, 1, 1, 2048] ![1, 1, 1, 1] ![0, 0, 0, 0] ![0, 0, 0, 2047] x
    (broadcastInDim S_ ![] bcast_S_S_ (constant (F := F) S_ .f32 0x00000000#32))
    reduceWindows_S8x8x2048x2048_S8x8x2048x2048_w1s1p0_0_w1s1p0_0_w1s1p0_0_w2048s1p0_2047 h_S_

/-- The sums over the keys after each key. -/
def sumsAfter (x : Vec F S8x8x2048x2048 .f32) : Vec F S8x8x2048x2048 .f32 := subf (F := F) (φ := .f32) (sumsFrom x) x

/-- The weights of the keys. -/
def weights (w : IVec S2048x2048 1) (g l : Vec F S8x8x2048x2048 .f32) : Vec F S8x8x2048x2048 .f32 :=
  masked w (Host.exp (F := F) (φ := .f32) (addf (F := F) (φ := .f32) g l))

/-- The weighed values, the heads side by side. -/
def mixed (a : Vec F S8x8x2048x2048 .f32) (v : Vec F S8x8x2048x64 .f32) : Vec F S16384x512 .bf16 :=
  truncf (F := F) .bf16 (shapeCast S16384x512 (shapeCast S8x2048x512 (transpose S8x2048x8x64 [0, 2, 1, 3]
    (Host.dotGeneral (F := F) dot_S8x8x2048x2048_S8x8x2048x64_S8x8x2048x64_3_2_2_3_01_01 none a v)
    transposes_S8x8x2048x64_S8x2048x8x64_0_2_1_3) shapeCasts_S8x2048x8x64_S8x2048x512) shapeCasts_S8x2048x512_S16384x512) bitsLt_bf16_f32

/-- The array the reference returns, of its argument. -/
def result (X : Vec F S10x16384x512 .bf16) : Vec F S16384x512 .bf16 :=
  let z := scores (qHeads X) (kHeads X)
  mixed (weights before (Host.negf (F := F) (φ := .f32) (softplus (Host.negf (F := F) (φ := .f32) z)))
    (sumsAfter (masked before (Host.negf (F := F) (φ := .f32) (softplus z))))) (vHeads X)

/-! ## The operations -/

/-- The operations that cut the queries, the keys and the values of the heads out of the argument. -/
abbrev opsQKV : List (HloOp τ sig (Elt F)) :=
  [
    unary main_arg0 main_v0 ((extf .f32 · bitsLt_bf16_f32) : (⟨S10x16384x512, .bf16⟩ : BufTy).Contents (Elt F) → (⟨S10x16384x512, .f32⟩ : BufTy).Contents (Elt F)),
    unary main_v0 main_v1 ((extractStridedSlice S1x16384x512 ![0, 0, 0] · slices_S10x16384x512_S1x16384x512_0_0_0) : (⟨S10x16384x512, .f32⟩ : BufTy).Contents (Elt F) → (⟨S1x16384x512, .f32⟩ : BufTy).Contents (Elt F)),
    reshape main_v1 main_v2 (rfl : (.f32 : EltTy) = .f32) shapeCasts_S1x16384x512_S16384x512,
    reshape main_v2 main_v3 (rfl : (.f32 : EltTy) = .f32) shapeCasts_S16384x512_S8x2048x512,
    reshape main_v3 main_v4 (rfl : (.f32 : EltTy) = .f32) shapeCasts_S8x2048x512_S8x2048x8x64,
    unary main_v4 main_v5 ((transpose S8x8x2048x64 [0, 2, 1, 3] · transposes_S8x2048x8x64_S8x8x2048x64_0_2_1_3) : (⟨S8x2048x8x64, .f32⟩ : BufTy).Contents (Elt F) → (⟨S8x8x2048x64, .f32⟩ : BufTy).Contents (Elt F)),
    unary main_v0 main_v6 ((extractStridedSlice S1x16384x512 ![1, 0, 0] · slices_S10x16384x512_S1x16384x512_1_0_0) : (⟨S10x16384x512, .f32⟩ : BufTy).Contents (Elt F) → (⟨S1x16384x512, .f32⟩ : BufTy).Contents (Elt F)),
    reshape main_v6 main_v7 (rfl : (.f32 : EltTy) = .f32) shapeCasts_S1x16384x512_S16384x512,
    reshape main_v7 main_v8 (rfl : (.f32 : EltTy) = .f32) shapeCasts_S16384x512_S8x2048x512,
    reshape main_v8 main_v9 (rfl : (.f32 : EltTy) = .f32) shapeCasts_S8x2048x512_S8x2048x8x64,
    unary main_v9 main_v10 ((transpose S8x8x2048x64 [0, 2, 1, 3] · transposes_S8x2048x8x64_S8x8x2048x64_0_2_1_3) : (⟨S8x2048x8x64, .f32⟩ : BufTy).Contents (Elt F) → (⟨S8x8x2048x64, .f32⟩ : BufTy).Contents (Elt F)),
    unary main_v0 main_v11 ((extractStridedSlice S1x16384x512 ![2, 0, 0] · slices_S10x16384x512_S1x16384x512_2_0_0) : (⟨S10x16384x512, .f32⟩ : BufTy).Contents (Elt F) → (⟨S1x16384x512, .f32⟩ : BufTy).Contents (Elt F)),
    reshape main_v11 main_v12 (rfl : (.f32 : EltTy) = .f32) shapeCasts_S1x16384x512_S16384x512,
    reshape main_v12 main_v13 (rfl : (.f32 : EltTy) = .f32) shapeCasts_S16384x512_S8x2048x512,
    reshape main_v13 main_v14 (rfl : (.f32 : EltTy) = .f32) shapeCasts_S8x2048x512_S8x2048x8x64,
    unary main_v14 main_v15 ((transpose S8x8x2048x64 [0, 2, 1, 3] · transposes_S8x2048x8x64_S8x8x2048x64_0_2_1_3) : (⟨S8x2048x8x64, .f32⟩ : BufTy).Contents (Elt F) → (⟨S8x8x2048x64, .f32⟩ : BufTy).Contents (Elt F)) ]

/-- The buffers `opsQKV` writes, in order. -/
abbrev opsQKVW : List (Ref sig .tc) := [main_v0, main_v1, main_v2, main_v3, main_v4, main_v5, main_v6, main_v7, main_v8, main_v9, main_v10, main_v11, main_v12, main_v13, main_v14, main_v15]

theorem opsQKV_keeps {r : Ref sig .tc} (V : Valuation τ sig (Elt F)) (hr : r ∉ opsQKVW) :
    after opsQKV V (Proc.devRef .tc r) = V (Proc.devRef .tc r) :=
  after_of_writes_sub opsQKV V (forall_writes_sub_of_map rfl) hr

set_option maxRecDepth 8192 in
theorem opsQKV_sub : (opsQKV (F := F)).Forall fun op => op.bufs ⊆ tcRefs τ sig :=
  ⟨unary_bufs_sub .., unary_bufs_sub .., reshape_bufs_sub .., reshape_bufs_sub .., reshape_bufs_sub .., unary_bufs_sub .., unary_bufs_sub .., reshape_bufs_sub .., reshape_bufs_sub .., reshape_bufs_sub .., unary_bufs_sub .., unary_bufs_sub .., reshape_bufs_sub .., reshape_bufs_sub .., reshape_bufs_sub .., unary_bufs_sub ..⟩

/-- The operations that make the scaled scores and the strict causal mask. -/
abbrev opsScore : List (HloOp τ sig (Elt F)) :=
  [
    binary main_v5 main_v10 main_v16 ((fun l r => Host.dotGeneral dot_S8x8x2048x64_S8x8x2048x64_S8x8x2048x2048_3_3_2_2_01_01 none l r) : (⟨S8x8x2048x64, .f32⟩ : BufTy).Contents (Elt F) → (⟨S8x8x2048x64, .f32⟩ : BufTy).Contents (Elt F) → (⟨S8x8x2048x2048, .f32⟩ : BufTy).Contents (Elt F)),
    nullary main_cst (constant S_ .f32 0x3E000000#32),
    unary main_cst main_v17 (broadcastInDim S8x8x2048x2048 ![] bcast_S_S8x8x2048x2048 : (⟨S_, .f32⟩ : BufTy).Contents (Elt F) → (⟨S8x8x2048x2048, .f32⟩ : BufTy).Contents (Elt F)),
    binary main_v16 main_v17 main_v18 (mulf : (⟨S8x8x2048x2048, .f32⟩ : BufTy).Contents (Elt F) → (⟨S8x8x2048x2048, .f32⟩ : BufTy).Contents (Elt F) → (⟨S8x8x2048x2048, .f32⟩ : BufTy).Contents (Elt F)),
    nullary main_v19 (iotaInDim S2048 32 0),
    unary main_v19 main_v20 (broadcastInDim S1x2048 ![1] bcast_S2048_S1x2048_1 : (⟨S2048, .i32⟩ : BufTy).Contents (Elt F) → (⟨S1x2048, .i32⟩ : BufTy).Contents (Elt F)),
    unary main_v19 main_v21 (broadcastInDim S2048x1 ![0] bcast_S2048_S2048x1_0 : (⟨S2048, .i32⟩ : BufTy).Contents (Elt F) → (⟨S2048x1, .i32⟩ : BufTy).Contents (Elt F)),
    unary main_v20 main_v22 (broadcastInDim S2048x2048 ![0, 1] bcast_S1x2048_S2048x2048_0_1 : (⟨S1x2048, .i32⟩ : BufTy).Contents (Elt F) → (⟨S2048x2048, .i32⟩ : BufTy).Contents (Elt F)),
    unary main_v21 main_v23 (broadcastInDim S2048x2048 ![0, 1] bcast_S2048x1_S2048x2048_0_1 : (⟨S2048x1, .i32⟩ : BufTy).Contents (Elt F) → (⟨S2048x2048, .i32⟩ : BufTy).Contents (Elt F)),
    binary main_v22 main_v23 main_v24 (cmpi .slt : (⟨S2048x2048, .i32⟩ : BufTy).Contents (Elt F) → (⟨S2048x2048, .i32⟩ : BufTy).Contents (Elt F) → (⟨S2048x2048, .i1⟩ : BufTy).Contents (Elt F)) ]

/-- The buffers `opsScore` writes, in order. -/
abbrev opsScoreW : List (Ref sig .tc) := [main_v16, main_cst, main_v17, main_v18, main_v19, main_v20, main_v21, main_v22, main_v23, main_v24]

theorem opsScore_keeps {r : Ref sig .tc} (V : Valuation τ sig (Elt F)) (hr : r ∉ opsScoreW) :
    after opsScore V (Proc.devRef .tc r) = V (Proc.devRef .tc r) :=
  after_of_writes_sub opsScore V (forall_writes_sub_of_map rfl) hr

set_option maxRecDepth 8192 in
theorem opsScore_sub : (opsScore (F := F)).Forall fun op => op.bufs ⊆ tcRefs τ sig :=
  ⟨binary_bufs_sub .., nullary_bufs_sub .., unary_bufs_sub .., binary_bufs_sub .., nullary_bufs_sub .., unary_bufs_sub .., unary_bufs_sub .., unary_bufs_sub .., unary_bufs_sub .., binary_bufs_sub ..⟩

/-- The operations that make the logarithm of the share each earlier key leaves: softplus, negated, masked. -/
abbrev opsKeep : List (HloOp τ sig (Elt F)) :=
  [
    TRef.nullary (TRef.of (T := ⟨S_, .f32⟩) main_call0_cst) (constant S_ .f32 0x00000000#32),
    TRef.unary (TRef.of (T := ⟨S_, .f32⟩) main_call0_cst) (TRef.of (T := ⟨S8x8x2048x2048, .f32⟩) main_call0_v0) (broadcastInDim S8x8x2048x2048 ![] bcast_S_S8x8x2048x2048),
    TRef.binary (TRef.of (T := ⟨S8x8x2048x2048, .f32⟩) main_v18) (TRef.of (T := ⟨S8x8x2048x2048, .f32⟩) main_call0_v0) (TRef.of (T := ⟨S8x8x2048x2048, .f32⟩) main_call0_v1) maximumf,
    TRef.unary (TRef.of (T := ⟨S_, .f32⟩) main_call0_cst) (TRef.of (T := ⟨S8x8x2048x2048, .f32⟩) main_call0_v2) (broadcastInDim S8x8x2048x2048 ![] bcast_S_S8x8x2048x2048),
    TRef.binary (TRef.of (T := ⟨S8x8x2048x2048, .f32⟩) main_v18) (TRef.of (T := ⟨S8x8x2048x2048, .f32⟩) main_call0_v2) (TRef.of (T := ⟨S8x8x2048x2048, .f32⟩) main_call0_v3) subf,
    TRef.binary (TRef.of (T := ⟨S8x8x2048x2048, .f32⟩) main_call0_v3) (TRef.of (T := ⟨S8x8x2048x2048, .f32⟩) main_call0_v3) (TRef.of (T := ⟨S8x8x2048x2048, .i1⟩) main_call0_v4) (cmpf .une),
    TRef.unary (TRef.of (T := ⟨S_, .f32⟩) main_call0_cst) (TRef.of (T := ⟨S8x8x2048x2048, .f32⟩) main_call0_v5) (broadcastInDim S8x8x2048x2048 ![] bcast_S_S8x8x2048x2048),
    TRef.binary (TRef.of (T := ⟨S8x8x2048x2048, .f32⟩) main_v18) (TRef.of (T := ⟨S8x8x2048x2048, .f32⟩) main_call0_v5) (TRef.of (T := ⟨S8x8x2048x2048, .f32⟩) main_call0_v6) addf,
    TRef.unary (TRef.of (T := ⟨S8x8x2048x2048, .f32⟩) main_call0_v3) (TRef.of (T := ⟨S8x8x2048x2048, .f32⟩) main_call0_v7) Host.absf,
    TRef.unary (TRef.of (T := ⟨S8x8x2048x2048, .f32⟩) main_call0_v7) (TRef.of (T := ⟨S8x8x2048x2048, .f32⟩) main_call0_v8) Host.negf,
    TRef.unary (TRef.of (T := ⟨S8x8x2048x2048, .f32⟩) main_call0_v8) (TRef.of (T := ⟨S8x8x2048x2048, .f32⟩) main_call0_v9) Host.exp,
    TRef.unary (TRef.of (T := ⟨S8x8x2048x2048, .f32⟩) main_call0_v9) (TRef.of (T := ⟨S8x8x2048x2048, .f32⟩) main_call0_v10) Host.log1p,
    TRef.binary (TRef.of (T := ⟨S8x8x2048x2048, .f32⟩) main_call0_v1) (TRef.of (T := ⟨S8x8x2048x2048, .f32⟩) main_call0_v10) (TRef.of (T := ⟨S8x8x2048x2048, .f32⟩) main_call0_v11) addf,
    TRef.ternary (TRef.of (T := ⟨S8x8x2048x2048, .i1⟩) main_call0_v4) (TRef.of (T := ⟨S8x8x2048x2048, .f32⟩) main_call0_v6) (TRef.of (T := ⟨S8x8x2048x2048, .f32⟩) main_call0_v11) (TRef.of (T := ⟨S8x8x2048x2048, .f32⟩) main_v25) select,
    unary main_v25 main_v26 (Host.negf : (⟨S8x8x2048x2048, .f32⟩ : BufTy).Contents (Elt F) → (⟨S8x8x2048x2048, .f32⟩ : BufTy).Contents (Elt F)),
    nullary main_cst_0 (constant S_ .f32 0x00000000#32),
    TRef.unary (TRef.of (T := ⟨S_, .f32⟩) main_cst_0) (TRef.of (T := ⟨S_, .f32⟩) main_call1_v0) id,
    TRef.unary (TRef.of (T := ⟨S2048x2048, .i1⟩) main_v24) (TRef.of (T := ⟨S8x8x2048x2048, .i1⟩) main_call1_v1) (broadcastInDim S8x8x2048x2048 ![2, 3] bcast_S2048x2048_S8x8x2048x2048_2_3),
    TRef.unary (TRef.of (T := ⟨S_, .f32⟩) main_call1_v0) (TRef.of (T := ⟨S8x8x2048x2048, .f32⟩) main_call1_v2) (broadcastInDim S8x8x2048x2048 ![] bcast_S_S8x8x2048x2048),
    TRef.ternary (TRef.of (T := ⟨S8x8x2048x2048, .i1⟩) main_call1_v1) (TRef.of (T := ⟨S8x8x2048x2048, .f32⟩) main_v26) (TRef.of (T := ⟨S8x8x2048x2048, .f32⟩) main_call1_v2) (TRef.of (T := ⟨S8x8x2048x2048, .f32⟩) main_v27) select ]

/-- The buffers `opsKeep` writes, in order. -/
abbrev opsKeepW : List (Ref sig .tc) := [main_call0_cst, main_call0_v0, main_call0_v1, main_call0_v2, main_call0_v3, main_call0_v4, main_call0_v5, main_call0_v6, main_call0_v7, main_call0_v8, main_call0_v9, main_call0_v10, main_call0_v11, main_v25, main_v26, main_cst_0, main_call1_v0, main_call1_v1, main_call1_v2, main_v27]

theorem opsKeep_keeps {r : Ref sig .tc} (V : Valuation τ sig (Elt F)) (hr : r ∉ opsKeepW) :
    after opsKeep V (Proc.devRef .tc r) = V (Proc.devRef .tc r) :=
  after_of_writes_sub opsKeep V (forall_writes_sub_of_map rfl) hr

set_option maxRecDepth 8192 in
theorem opsKeep_sub : (opsKeep (F := F)).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., unary_bufs_sub .., unary_bufs_sub .., ternary_bufs_sub ..⟩

/-- The operations that add up what the later keys leave: the sum from a key on, less the key itself. -/
abbrev opsLater : List (HloOp τ sig (Elt F)) :=
  [
    TRef.nullary (TRef.of (T := ⟨S_, .f32⟩) main_call2_cst) (constant S_ .f32 0x00000000#32),
    TRef.unary (TRef.of (T := ⟨S_, .f32⟩) main_call2_cst) (TRef.of (T := ⟨S_, .f32⟩) main_call2_v0) (broadcastInDim S_ ![] bcast_S_S_),
    TRef.binary (TRef.of (T := ⟨S8x8x2048x2048, .f32⟩) main_v27) (TRef.of (T := ⟨S_, .f32⟩) main_call2_v0) (TRef.of (T := ⟨S8x8x2048x2048, .f32⟩) main_v28) (fun x v => Host.reduceWindowAdd ![1, 1, 1, 2048] ![1, 1, 1, 1] ![0, 0, 0, 0] ![0, 0, 0, 2047] x v reduceWindows_S8x8x2048x2048_S8x8x2048x2048_w1s1p0_0_w1s1p0_0_w1s1p0_0_w2048s1p0_2047 h_S_),
    binary main_v28 main_v27 main_v29 (subf : (⟨S8x8x2048x2048, .f32⟩ : BufTy).Contents (Elt F) → (⟨S8x8x2048x2048, .f32⟩ : BufTy).Contents (Elt F) → (⟨S8x8x2048x2048, .f32⟩ : BufTy).Contents (Elt F)) ]

/-- The buffers `opsLater` writes, in order. -/
abbrev opsLaterW : List (Ref sig .tc) := [main_call2_cst, main_call2_v0, main_v28, main_v29]

theorem opsLater_keeps {r : Ref sig .tc} (V : Valuation τ sig (Elt F)) (hr : r ∉ opsLaterW) :
    after opsLater V (Proc.devRef .tc r) = V (Proc.devRef .tc r) :=
  after_of_writes_sub opsLater V (forall_writes_sub_of_map rfl) hr

set_option maxRecDepth 8192 in
theorem opsLater_sub : (opsLater (F := F)).Forall fun op => op.bufs ⊆ tcRefs τ sig :=
  ⟨nullary_bufs_sub .., unary_bufs_sub .., binary_bufs_sub .., binary_bufs_sub ..⟩

/-- The operations that make the logarithm of the share a key takes. -/
abbrev opsSig : List (HloOp τ sig (Elt F)) :=
  [
    TRef.unary (TRef.of (T := ⟨S8x8x2048x2048, .f32⟩) main_v18) (TRef.of (T := ⟨S8x8x2048x2048, .f32⟩) main_call3_v0) Host.negf,
    TRef.nullary (TRef.of (T := ⟨S_, .f32⟩) main_call3_call0_cst) (constant S_ .f32 0x00000000#32),
    TRef.unary (TRef.of (T := ⟨S_, .f32⟩) main_call3_call0_cst) (TRef.of (T := ⟨S8x8x2048x2048, .f32⟩) main_call3_call0_v0) (broadcastInDim S8x8x2048x2048 ![] bcast_S_S8x8x2048x2048),
    TRef.binary (TRef.of (T := ⟨S8x8x2048x2048, .f32⟩) main_call3_v0) (TRef.of (T := ⟨S8x8x2048x2048, .f32⟩) main_call3_call0_v0) (TRef.of (T := ⟨S8x8x2048x2048, .f32⟩) main_call3_call0_v1) maximumf,
    TRef.unary (TRef.of (T := ⟨S_, .f32⟩) main_call3_call0_cst) (TRef.of (T := ⟨S8x8x2048x2048, .f32⟩) main_call3_call0_v2) (broadcastInDim S8x8x2048x2048 ![] bcast_S_S8x8x2048x2048),
    TRef.binary (TRef.of (T := ⟨S8x8x2048x2048, .f32⟩) main_call3_v0) (TRef.of (T := ⟨S8x8x2048x2048, .f32⟩) main_call3_call0_v2) (TRef.of (T := ⟨S8x8x2048x2048, .f32⟩) main_call3_call0_v3) subf,
    TRef.binary (TRef.of (T := ⟨S8x8x2048x2048, .f32⟩) main_call3_call0_v3) (TRef.of (T := ⟨S8x8x2048x2048, .f32⟩) main_call3_call0_v3) (TRef.of (T := ⟨S8x8x2048x2048, .i1⟩) main_call3_call0_v4) (cmpf .une),
    TRef.unary (TRef.of (T := ⟨S_, .f32⟩) main_call3_call0_cst) (TRef.of (T := ⟨S8x8x2048x2048, .f32⟩) main_call3_call0_v5) (broadcastInDim S8x8x2048x2048 ![] bcast_S_S8x8x2048x2048),
    TRef.binary (TRef.of (T := ⟨S8x8x2048x2048, .f32⟩) main_call3_v0) (TRef.of (T := ⟨S8x8x2048x2048, .f32⟩) main_call3_call0_v5) (TRef.of (T := ⟨S8x8x2048x2048, .f32⟩) main_call3_call0_v6) addf,
    TRef.unary (TRef.of (T := ⟨S8x8x2048x2048, .f32⟩) main_call3_call0_v3) (TRef.of (T := ⟨S8x8x2048x2048, .f32⟩) main_call3_call0_v7) Host.absf,
    TRef.unary (TRef.of (T := ⟨S8x8x2048x2048, .f32⟩) main_call3_call0_v7) (TRef.of (T := ⟨S8x8x2048x2048, .f32⟩) main_call3_call0_v8) Host.negf,
    TRef.unary (TRef.of (T := ⟨S8x8x2048x2048, .f32⟩) main_call3_call0_v8) (TRef.of (T := ⟨S8x8x2048x2048, .f32⟩) main_call3_call0_v9) Host.exp,
    TRef.unary (TRef.of (T := ⟨S8x8x2048x2048, .f32⟩) main_call3_call0_v9) (TRef.of (T := ⟨S8x8x2048x2048, .f32⟩) main_call3_call0_v10) Host.log1p,
    TRef.binary (TRef.of (T := ⟨S8x8x2048x2048, .f32⟩) main_call3_call0_v1) (TRef.of (T := ⟨S8x8x2048x2048, .f32⟩) main_call3_call0_v10) (TRef.of (T := ⟨S8x8x2048x2048, .f32⟩) main_call3_call0_v11) addf,
    TRef.ternary (TRef.of (T := ⟨S8x8x2048x2048, .i1⟩) main_call3_call0_v4) (TRef.of (T := ⟨S8x8x2048x2048, .f32⟩) main_call3_call0_v6) (TRef.of (T := ⟨S8x8x2048x2048, .f32⟩) main_call3_call0_v11) (TRef.of (T := ⟨S8x8x2048x2048, .f32⟩) main_call3_v1) select,
    TRef.unary (TRef.of (T := ⟨S8x8x2048x2048, .f32⟩) main_call3_v1) (TRef.of (T := ⟨S8x8x2048x2048, .f32⟩) main_v30) Host.negf ]

/-- The buffers `opsSig` writes, in order. -/
abbrev opsSigW : List (Ref sig .tc) := [main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v30]

theorem opsSig_keeps {r : Ref sig .tc} (V : Valuation τ sig (Elt F)) (hr : r ∉ opsSigW) :
    after opsSig V (Proc.devRef .tc r) = V (Proc.devRef .tc r) :=
  after_of_writes_sub opsSig V (forall_writes_sub_of_map rfl) hr

set_option maxRecDepth 8192 in
theorem opsSig_sub : (opsSig (F := F)).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩

/-- The operations that make the masked weights. -/
abbrev opsWeight : List (HloOp τ sig (Elt F)) :=
  [
    binary main_v30 main_v29 main_v31 (addf : (⟨S8x8x2048x2048, .f32⟩ : BufTy).Contents (Elt F) → (⟨S8x8x2048x2048, .f32⟩ : BufTy).Contents (Elt F) → (⟨S8x8x2048x2048, .f32⟩ : BufTy).Contents (Elt F)),
    unary main_v31 main_v32 (Host.exp : (⟨S8x8x2048x2048, .f32⟩ : BufTy).Contents (Elt F) → (⟨S8x8x2048x2048, .f32⟩ : BufTy).Contents (Elt F)),
    nullary main_cst_1 (constant S_ .f32 0x00000000#32),
    TRef.unary (TRef.of (T := ⟨S_, .f32⟩) main_cst_1) (TRef.of (T := ⟨S_, .f32⟩) main_call4_v0) id,
    TRef.unary (TRef.of (T := ⟨S2048x2048, .i1⟩) main_v24) (TRef.of (T := ⟨S8x8x2048x2048, .i1⟩) main_call4_v1) (broadcastInDim S8x8x2048x2048 ![2, 3] bcast_S2048x2048_S8x8x2048x2048_2_3),
    TRef.unary (TRef.of (T := ⟨S_, .f32⟩) main_call4_v0) (TRef.of (T := ⟨S8x8x2048x2048, .f32⟩) main_call4_v2) (broadcastInDim S8x8x2048x2048 ![] bcast_S_S8x8x2048x2048),
    TRef.ternary (TRef.of (T := ⟨S8x8x2048x2048, .i1⟩) main_call4_v1) (TRef.of (T := ⟨S8x8x2048x2048, .f32⟩) main_v32) (TRef.of (T := ⟨S8x8x2048x2048, .f32⟩) main_call4_v2) (TRef.of (T := ⟨S8x8x2048x2048, .f32⟩) main_v33) select ]

/-- The buffers `opsWeight` writes, in order. -/
abbrev opsWeightW : List (Ref sig .tc) := [main_v31, main_v32, main_cst_1, main_call4_v0, main_call4_v1, main_call4_v2, main_v33]

theorem opsWeight_keeps {r : Ref sig .tc} (V : Valuation τ sig (Elt F)) (hr : r ∉ opsWeightW) :
    after opsWeight V (Proc.devRef .tc r) = V (Proc.devRef .tc r) :=
  after_of_writes_sub opsWeight V (forall_writes_sub_of_map rfl) hr

set_option maxRecDepth 8192 in
theorem opsWeight_sub : (opsWeight (F := F)).Forall fun op => op.bufs ⊆ tcRefs τ sig :=
  ⟨binary_bufs_sub .., unary_bufs_sub .., nullary_bufs_sub .., unary_bufs_sub .., unary_bufs_sub .., unary_bufs_sub .., ternary_bufs_sub ..⟩

/-- The operations that weigh the values and lay the heads side by side again. -/
abbrev opsOut : List (HloOp τ sig (Elt F)) :=
  [
    binary main_v33 main_v15 main_v34 ((fun l r => Host.dotGeneral dot_S8x8x2048x2048_S8x8x2048x64_S8x8x2048x64_3_2_2_3_01_01 none l r) : (⟨S8x8x2048x2048, .f32⟩ : BufTy).Contents (Elt F) → (⟨S8x8x2048x64, .f32⟩ : BufTy).Contents (Elt F) → (⟨S8x8x2048x64, .f32⟩ : BufTy).Contents (Elt F)),
    unary main_v34 main_v35 ((transpose S8x2048x8x64 [0, 2, 1, 3] · transposes_S8x8x2048x64_S8x2048x8x64_0_2_1_3) : (⟨S8x8x2048x64, .f32⟩ : BufTy).Contents (Elt F) → (⟨S8x2048x8x64, .f32⟩ : BufTy).Contents (Elt F)),
    reshape main_v35 main_v36 (rfl : (.f32 : EltTy) = .f32) shapeCasts_S8x2048x8x64_S8x2048x512,
    reshape main_v36 main_v37 (rfl : (.f32 : EltTy) = .f32) shapeCasts_S8x2048x512_S16384x512,
    unary main_v37 main_v38 ((truncf .bf16 · bitsLt_bf16_f32) : (⟨S16384x512, .f32⟩ : BufTy).Contents (Elt F) → (⟨S16384x512, .bf16⟩ : BufTy).Contents (Elt F)) ]

/-- The buffers `opsOut` writes, in order. -/
abbrev opsOutW : List (Ref sig .tc) := [main_v34, main_v35, main_v36, main_v37, main_v38]

theorem opsOut_keeps {r : Ref sig .tc} (V : Valuation τ sig (Elt F)) (hr : r ∉ opsOutW) :
    after opsOut V (Proc.devRef .tc r) = V (Proc.devRef .tc r) :=
  after_of_writes_sub opsOut V (forall_writes_sub_of_map rfl) hr

set_option maxRecDepth 8192 in
theorem opsOut_sub : (opsOut (F := F)).Forall fun op => op.bufs ⊆ tcRefs τ sig :=
  ⟨binary_bufs_sub .., unary_bufs_sub .., reshape_bufs_sub .., reshape_bufs_sub .., unary_bufs_sub ..⟩

/-! ## What each group leaves -/

theorem q_at (V : Valuation τ sig (Elt F)) : after opsQKV V (Proc.devRef .tc main_v5) = qHeads (V (Proc.devRef .tc main_arg0)) := by
  after_results_simp <;> rfl

theorem k_at (V : Valuation τ sig (Elt F)) : after opsQKV V (Proc.devRef .tc main_v10) = kHeads (V (Proc.devRef .tc main_arg0)) := by
  after_results_simp <;> rfl

theorem v_at (V : Valuation τ sig (Elt F)) : after opsQKV V (Proc.devRef .tc main_v15) = vHeads (V (Proc.devRef .tc main_arg0)) := by
  after_results_simp <;> rfl

theorem scores_at (V : Valuation τ sig (Elt F)) : after opsScore V (Proc.devRef .tc main_v18)
    = scores (V (Proc.devRef .tc main_v5)) (V (Proc.devRef .tc main_v10)) := by
  after_results_simp <;> rfl

theorem before_at (V : Valuation τ sig (Elt F)) : after opsScore V (Proc.devRef .tc main_v24) = before := by
  after_results_simp <;> rfl

theorem keep_at (V : Valuation τ sig (Elt F)) : after opsKeep V (Proc.devRef .tc main_v27)
    = masked (V (Proc.devRef .tc main_v24)) (Host.negf (F := F) (φ := .f32) (softplus (V (Proc.devRef .tc main_v18)))) := by
  simp only [opsKeep, TRef.binary, TRef.nullary, TRef.ternary, TRef.unary, TRef.toBuf, TRef.ofBuf, cast_eq]
  after_results_simp <;> rfl

theorem later_at (V : Valuation τ sig (Elt F)) : after opsLater V (Proc.devRef .tc main_v29)
    = sumsAfter (V (Proc.devRef .tc main_v27)) := by
  simp only [opsLater, TRef.binary, TRef.nullary, TRef.ternary, TRef.unary, TRef.toBuf, TRef.ofBuf, cast_eq]
  after_results_simp <;> rfl

theorem sig_at (V : Valuation τ sig (Elt F)) : after opsSig V (Proc.devRef .tc main_v30)
    = Host.negf (F := F) (φ := .f32) (softplus (Host.negf (F := F) (φ := .f32) (V (Proc.devRef .tc main_v18)))) := by
  simp only [opsSig, TRef.binary, TRef.nullary, TRef.ternary, TRef.unary, TRef.toBuf, TRef.ofBuf, cast_eq]
  after_results_simp <;> rfl

theorem weights_at (V : Valuation τ sig (Elt F)) : after opsWeight V (Proc.devRef .tc main_v33)
    = weights (V (Proc.devRef .tc main_v24)) (V (Proc.devRef .tc main_v30)) (V (Proc.devRef .tc main_v29)) := by
  simp only [opsWeight, TRef.binary, TRef.nullary, TRef.ternary, TRef.unary, TRef.toBuf, TRef.ofBuf, cast_eq]
  after_results_simp <;> rfl

theorem mixed_at (V : Valuation τ sig (Elt F)) : after opsOut V (Proc.devRef .tc main_v38)
    = mixed (V (Proc.devRef .tc main_v33)) (V (Proc.devRef .tc main_v15)) := by
  after_results_simp <;> rfl

/-! ## The run -/

/-- All the operations, group after group. -/
abbrev opsAll : List (HloOp τ sig (Elt F)) :=
  opsQKV ++ (opsScore ++ (opsKeep ++ (opsLater ++ (opsSig ++ (opsWeight ++ opsOut)))))

theorem after_append (a b : List (HloOp τ sig (Elt F))) (V : Valuation τ sig (Elt F)) :
    after (a ++ b) V = after b (after a V) := by
  induction a generalizing V with
  | nil => rfl
  | cons op a ih => exact ih _

theorem forall_append {p : HloOp τ sig (Elt F) → Prop} {a b : List (HloOp τ sig (Elt F))} (ha : a.Forall p) (hb : b.Forall p) :
    (a ++ b).Forall p := by
  rw [List.forall_iff_forall_mem] at *
  intro x hx
  rcases List.mem_append.mp hx with h | h
  exacts [ha x h, hb x h]

set_option maxRecDepth 8192 in
set_option maxHeartbeats 4000000 in
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll (F := F)).Forall fun op => op.bufs ⊆ tcRefs τ sig :=
  forall_append opsQKV_sub <| forall_append opsScore_sub <| forall_append opsKeep_sub <| forall_append opsLater_sub <|
    forall_append opsSig_sub <| forall_append opsWeight_sub opsOut_sub

/-- The operations leave `result` of the argument in the returned buffer. -/
theorem result_at (V : Valuation τ sig (Elt F)) :
    after opsAll V (Proc.devRef .tc main_v38) = result (V (Proc.devRef .tc main_arg0)) := by
  simp only [opsAll, after_append]
  rw [mixed_at, weights_at, opsWeight_keeps (r := main_v15) _ (by decide),
    sig_at, opsSig_keeps (r := main_v24) _ (by decide), opsSig_keeps (r := main_v29) _ (by decide), opsSig_keeps (r := main_v15) _ (by decide),
    later_at, opsLater_keeps (r := main_v24) _ (by decide), opsLater_keeps (r := main_v18) _ (by decide), opsLater_keeps (r := main_v15) _ (by decide),
    keep_at, opsKeep_keeps (r := main_v24) _ (by decide), opsKeep_keeps (r := main_v18) _ (by decide), opsKeep_keeps (r := main_v15) _ (by decide),
    scores_at, before_at, opsScore_keeps (r := main_v15) _ (by decide), q_at, k_at, v_at]
  rfl

/-- The operations leave the argument. -/
theorem arg_at (V : Valuation τ sig (Elt F)) :
    after opsAll V (Proc.devRef .tc main_arg0) = V (Proc.devRef .tc main_arg0) := by
  simp only [opsAll, after_append]
  rw [opsOut_keeps (r := main_arg0) _ (by decide), opsWeight_keeps (r := main_arg0) _ (by decide), opsSig_keeps (r := main_arg0) _ (by decide),
    opsLater_keeps (r := main_arg0) _ (by decide), opsKeep_keeps (r := main_arg0) _ (by decide), opsScore_keeps (r := main_arg0) _ (by decide),
    opsQKV_keeps (r := main_arg0) _ (by decide)]

/-- Every run of the reference ends with `result` of its argument in the returned buffer, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = result (m ((c.tc : Thread nD τ).loc main_arg0))
      ∧ r.2.mem ((c.tc : Thread nD τ).loc main_arg0) = m ((c.tc : Thread nD τ).loc main_arg0) :=
  (θ_run defs _ _).mono (fun _ h c => ⟨(h c main_v38).trans (result_at _), (h c main_arg0).trans (arg_at _)⟩)
    (run_seq scopedRefs_eq scopedSems_eq defs main (fun _ => opsAll) main_eq (fun _ => opsAll_sub) m ρ)

end Cert.ReferenceIdeal.Sb

end
-- ==== Proof.Ref.lean ====
/- What the reference's arrays hold, entry by entry: its result is the stick-breaking attention of its argument. -/
module

public import proofs.«01_k».proof.Proof.RefRun
public import proofs.«01_k».proof.Proof.Attention
public import Idealize.ShloMosaic.Lib.Pointwise

@[expose] public section

set_option maxRecDepth 16384

noncomputable section

namespace Cert.ReferenceIdeal.Sb

open Cert.ReferenceIdeal Cert.ReferenceIdeal.Gen Idealize.ShloMosaic Idealize.ShloMosaic.TcCoe Cert.StickBreaking

/-! ## The sums over the keys from each key on -/

theorem foldl_add {ι : Type} (g : ι → EReal) (l : List ι) (v : EReal) : l.foldl (fun r n => r + g n) v = v + (l.map g).sum := by
  induction l generalizing v with
  | nil => simp
  | cons a l ih => simp only [List.foldl_cons, List.map_cons, List.sum_cons, ih, add_assoc]

/-- A sum over a window of 2048 that starts at `s` and passes the end is the sum from `s` on. -/
theorem sum_window (f : ℕ → EReal) (s : ℕ) :
    (∑ k : Fin 2048, if s + k.val < 2048 then f (s + k.val) else 0) = ∑ j ∈ Finset.Ico s 2048, f j := by
  rw [Fin.sum_univ_eq_sum_range (fun k => if s + k < 2048 then f (s + k) else 0) 2048, ← Finset.sum_filter, Finset.sum_Ico_eq_sum_range]
  refine Finset.sum_congr (Finset.ext fun k => ?_) fun _ _ => rfl
  simp only [Finset.mem_filter, Finset.mem_range]
  omega

theorem zero_bits : Ideal.ofBits .f32 0x00000000#32 = 0 := by
  simp [Ideal.ofBits, Ideal.ieee]

/-- `sumsFrom` at an entry: the sum of the row from that entry on. -/
theorem sumsFrom_apply (x : Vec Ideal S8x8x2048x2048 .f32) (b h : Fin 8) (t s : Fin 2048) :
    sumsFrom x (ix4 b h t s) = ∑ j ∈ Finset.Ico s.val 2048, if hj : j < 2048 then (x (ix4 b h t (⟨j, hj⟩ : Fin 2048)) : EReal) else 0 := by
  refine Eq.trans ?_ (sum_window (fun j => if hj : j < 2048 then (x (ix4 b h t (⟨j, hj⟩ : Fin 2048)) : EReal) else 0) s.val)
  unfold sumsFrom Host.reduceWindowAdd
  have hi : (broadcastInDim S_ ![] bcast_S_S_ (constant (F := Ideal) S_ .f32 0x00000000#32) (Shape.Idx.first h_S_) : EReal) = 0 := zero_bits
  rw [hi]
  show Ideal.hostReduceWindowAdd (s := S8x8x2048x2048) ![1, 1, 1, 2048] ![1, 1, 1, 1] ![0, 0, 0, 0] ![0, 0, 0, 2047]
    reduceWindows_S8x8x2048x2048_S8x8x2048x2048_w1s1p0_0_w1s1p0_0_w1s1p0_0_w2048s1p0_2047 x 0 (ix4 b h t s) = _
  unfold Ideal.hostReduceWindowAdd Host.reduceWindow
  dsimp only
  rw [foldl_add, ← Fin.sum_univ_def, zero_add]
  refine (Fintype.sum_equiv (Shape.rowMajor (⟨4, ![1, 1, 1, 2048]⟩ : Shape)).symm _
    (fun i => if s.val + (i 3).val < 2048 then (if hj : s.val + (i 3).val < 2048 then (x (ix4 b h t (⟨s.val + (i 3).val, hj⟩ : Fin 2048)) : EReal) else 0) else 0)
    (fun n => ?_)).trans ?_
  · have e0 : ((Shape.rowMajor (⟨4, ![1, 1, 1, 2048]⟩ : Shape)).symm n 0).val = 0 :=
      Nat.lt_one_iff.mp ((Shape.rowMajor (⟨4, ![1, 1, 1, 2048]⟩ : Shape)).symm n 0).isLt
    have e1 : ((Shape.rowMajor (⟨4, ![1, 1, 1, 2048]⟩ : Shape)).symm n 1).val = 0 :=
      Nat.lt_one_iff.mp ((Shape.rowMajor (⟨4, ![1, 1, 1, 2048]⟩ : Shape)).symm n 1).isLt
    have e2 : ((Shape.rowMajor (⟨4, ![1, 1, 1, 2048]⟩ : Shape)).symm n 2).val = 0 :=
      Nat.lt_one_iff.mp ((Shape.rowMajor (⟨4, ![1, 1, 1, 2048]⟩ : Shape)).symm n 2).isLt
    by_cases hj : s.val + ((Shape.rowMajor (⟨4, ![1, 1, 1, 2048]⟩ : Shape)).symm n 3).val < 2048
    · rw [dif_pos (show _ from ?_), if_pos hj, dif_pos hj]
      · refine congrArg x (funext fun a => Fin.ext ?_)
        match a with
        | ⟨0, _⟩ => show b.val * 1 + ((Shape.rowMajor (⟨4, ![1, 1, 1, 2048]⟩ : Shape)).symm n 0).val - 0 = b.val; omega
        | ⟨1, _⟩ => show h.val * 1 + ((Shape.rowMajor (⟨4, ![1, 1, 1, 2048]⟩ : Shape)).symm n 1).val - 0 = h.val; omega
        | ⟨2, _⟩ => show t.val * 1 + ((Shape.rowMajor (⟨4, ![1, 1, 1, 2048]⟩ : Shape)).symm n 2).val - 0 = t.val; omega
        | ⟨3, _⟩ =>
          show s.val * 1 + ((Shape.rowMajor (⟨4, ![1, 1, 1, 2048]⟩ : Shape)).symm n 3).val - 0
            = s.val + ((Shape.rowMajor (⟨4, ![1, 1, 1, 2048]⟩ : Shape)).symm n 3).val
          omega
      · intro a
        match a with
        | ⟨0, _⟩ => show 0 ≤ _ ∧ b.val * 1 + ((Shape.rowMajor (⟨4, ![1, 1, 1, 2048]⟩ : Shape)).symm n 0).val - 0 < 8; omega
        | ⟨1, _⟩ => show 0 ≤ _ ∧ h.val * 1 + ((Shape.rowMajor (⟨4, ![1, 1, 1, 2048]⟩ : Shape)).symm n 1).val - 0 < 8; omega
        | ⟨2, _⟩ => show 0 ≤ _ ∧ t.val * 1 + ((Shape.rowMajor (⟨4, ![1, 1, 1, 2048]⟩ : Shape)).symm n 2).val - 0 < 2048; omega
        | ⟨3, _⟩ => show 0 ≤ _ ∧ s.val * 1 + ((Shape.rowMajor (⟨4, ![1, 1, 1, 2048]⟩ : Shape)).symm n 3).val - 0 < 2048; omega
    · rw [dif_neg, if_neg hj]
      intro hin
      have h3 : s.val * 1 + ((Shape.rowMajor (⟨4, ![1, 1, 1, 2048]⟩ : Shape)).symm n 3).val - 0 < 2048 := (hin 3).2
      omega
  · rw [sum_idx4]
    simp only [Fin.sum_univ_one]
    rfl

/-! ## The elementwise arrays -/

theorem softplus_apply (z : Vec Ideal S8x8x2048x2048 .f32) (b h : Fin 8) (t s : Fin 2048) :
    softplus z (ix4 b h t s) = sp (z (ix4 b h t s)) := by
  pointwise [softplus, zeros]
  rw [if_neg (by simp)]
  rfl

theorem before_apply (t s : Fin 2048) : before (ix2 t s) = if s.val < t.val then 1#1 else 0#1 := by
  pointwise [before]
  have e : ∀ x : ℕ, x < 2048 → (BitVec.ofNat 32 x).toInt = (x : ℤ) := by
    intro x hx
    rw [BitVec.toInt_eq_toNat_of_lt] <;> rw [BitVec.toNat_ofNat, Nat.mod_eq_of_lt (by omega)]
    omega
  show BitVec.ofBool (decide ((BitVec.ofNat 32 s.val).toInt < (BitVec.ofNat 32 t.val).toInt)) = _
  rw [e _ s.isLt, e _ t.isLt]
  by_cases h : s.val < t.val
  · rw [if_pos h, decide_eq_true (by exact_mod_cast h)]; rfl
  · rw [if_neg h, decide_eq_false (by exact_mod_cast h)]; rfl

theorem masked_apply (w : IVec S2048x2048 1) (x : Vec Ideal S8x8x2048x2048 .f32) (b h : Fin 8) (t s : Fin 2048) :
    masked w x (ix4 b h t s) = if w (ix2 t s) = 1#1 then (x (ix4 b h t s) : EReal) else 0 := by
  pointwise [masked, zeros]
  rfl

/-! ## The heads -/

theorem qHeads_apply (X : Vec Ideal S10x16384x512 .bf16) (b h : Fin 8) (t : Fin 2048) (d : Fin 64) :
    qHeads X (ix4 b h t d) = entry (fun a r c => X (ix3 a r c)) 0 (b.val * 2048 + t.val) (h.val * 64 + d.val) := by
  unfold entry
  rw [dif_pos ⟨by omega, by omega, by omega⟩]
  pointwise [qHeads]

theorem kHeads_apply (X : Vec Ideal S10x16384x512 .bf16) (b h : Fin 8) (t : Fin 2048) (d : Fin 64) :
    kHeads X (ix4 b h t d) = entry (fun a r c => X (ix3 a r c)) 1 (b.val * 2048 + t.val) (h.val * 64 + d.val) := by
  unfold entry
  rw [dif_pos ⟨by omega, by omega, by omega⟩]
  pointwise [kHeads]

theorem vHeads_apply (X : Vec Ideal S10x16384x512 .bf16) (b h : Fin 8) (t : Fin 2048) (d : Fin 64) :
    vHeads X (ix4 b h t d) = entry (fun a r c => X (ix3 a r c)) 2 (b.val * 2048 + t.val) (h.val * 64 + d.val) := by
  unfold entry
  rw [dif_pos ⟨by omega, by omega, by omega⟩]
  pointwise [vHeads]

theorem scores_apply (q k : Vec Ideal S8x8x2048x64 .f32) (b h : Fin 8) (t s : Fin 2048) :
    scores q k (ix4 b h t s) = (∑ d : Fin 64, q (ix4 b h t d) * k (ix4 b h s d)) * Ideal.ofBits .f32 0x3E000000#32 := by
  pointwise [scores]

theorem mixed_apply (a : Vec Ideal S8x8x2048x2048 .f32) (v : Vec Ideal S8x8x2048x64 .f32) (r : Fin 16384) (c : Fin 512) :
    mixed a v (ix2 r c) = ∑ s : Fin 2048, a (ix4 (⟨r.val / 2048, by omega⟩ : Fin 8) (⟨c.val / 64, by omega⟩ : Fin 8) (⟨r.val % 2048, by omega⟩ : Fin 2048) s)
      * v (ix4 (⟨r.val / 2048, by omega⟩ : Fin 8) (⟨c.val / 64, by omega⟩ : Fin 8) s (⟨c.val % 64, by omega⟩ : Fin 64)) := by
  pointwise [mixed]

/-! ## The result -/

/-- The scores of the reference are `score` of the argument's entries. -/
theorem scores_eq (X : Vec Ideal S10x16384x512 .bf16) (b h : Fin 8) (t s : Fin 2048) :
    scores (qHeads X) (kHeads X) (ix4 b h t s) = score (fun a r c => X (ix3 a r c)) b.val h.val t.val s.val := by
  rw [scores_apply, score, ← Fin.sum_univ_eq_sum_range (fun d => entry (fun a r c => X (ix3 a r c)) 0 (b.val * 2048 + t.val) (h.val * 64 + d)
    * entry (fun a r c => X (ix3 a r c)) 1 (b.val * 2048 + s.val) (h.val * 64 + d)) 64]
  simp only [qHeads_apply, kHeads_apply]

theorem negf_apply (x : Vec Ideal S8x8x2048x2048 .f32) (j : S8x8x2048x2048.Idx) :
    (Host.negf (F := Ideal) (φ := .f32) x) j = -(x j : EReal) := rfl

theorem sumsAfter_apply (x : Vec Ideal S8x8x2048x2048 .f32) (j : S8x8x2048x2048.Idx) :
    sumsAfter (F := Ideal) x j = (sumsFrom (F := Ideal) x j : EReal) - (x j : EReal) := rfl

/-- The weights of the reference are `weight` of its scores. -/
theorem weights_apply (z : Vec Ideal S8x8x2048x2048 .f32) (f : ℕ → EReal) (b h : Fin 8) (t s : Fin 2048)
    (hz : ∀ s : Fin 2048, (z (ix4 b h t s) : EReal) = f s.val) :
    weights (F := Ideal) before (Host.negf (F := Ideal) (φ := .f32) (softplus (F := Ideal) (Host.negf (F := Ideal) (φ := .f32) z)))
      (sumsAfter (masked (F := Ideal) before (Host.negf (F := Ideal) (φ := .f32) (softplus (F := Ideal) z)))) (ix4 b h t s) = (weight f t.val s.val : EReal) := by
  have hw : ∀ s : Fin 2048, (before (ix2 t s) = 1#1) ↔ s.val < t.val := by
    intro s
    rw [before_apply]
    split <;> simp_all
  have hk : ∀ s : Fin 2048, (masked (F := Ideal) before (Host.negf (F := Ideal) (φ := .f32) (softplus (F := Ideal) z)) (ix4 b h t s) : EReal) = logKeep f t.val s.val := by
    intro s
    rw [masked_apply, negf_apply, softplus_apply, hz, logKeep]
    simp only [hw]
  have hs : sumsAfter (masked (F := Ideal) before (Host.negf (F := Ideal) (φ := .f32) (softplus (F := Ideal) z))) (ix4 b h t s)
      = (∑ j ∈ Finset.Ico s.val 2048, logKeep f t.val j) - logKeep f t.val s.val := by
    rw [sumsAfter_apply, hk, sumsFrom_apply]
    congr 1
    refine Finset.sum_congr rfl fun j hj => ?_
    have hj := (Finset.mem_Ico.mp hj).2
    rw [dif_pos hj]
    exact hk ⟨j, hj⟩
  rw [← weight_eq_inclusive f t.val s.val s.isLt, ← hs, ← hz s]
  unfold weights
  rw [masked_apply]
  simp only [hw]
  refine if_congr Iff.rfl ?_ rfl
  show Ideal.exp (-(softplus (F := Ideal) (Host.negf (F := Ideal) (φ := .f32) z) (ix4 b h t s)) + _) = _
  rw [softplus_apply, negf_apply]

/-- The reference's result is the attention of its argument. -/
theorem result_apply (X : Vec Ideal S10x16384x512 .bf16) (r : Fin 16384) (c : Fin 512) :
    result X (ix2 r c) = attended (fun a r c => X (ix3 a r c)) r.val c.val := by
  unfold result
  rw [mixed_apply]
  unfold attended mix
  rw [← Fin.sum_univ_eq_sum_range]
  refine Finset.sum_congr rfl fun s _ => ?_
  rw [weights_apply _ _ _ _ _ _ fun s => scores_eq X _ _ _ s, vHeads_apply]
  dsimp only
  rw [show c.val / 64 * 64 + c.val % 64 = c.val by omega]

end Cert.ReferenceIdeal.Sb

end
-- ==== Proof.ExpertsKit.lean ====
/- The experts' kernel up to its body: what the region finds in each buffer, the tables' words as the region reads them, the windows'
   blocks, where the result is written back, and the kernel's operands as the pipeline passes them. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.Kernel2Ideal.Ex

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 5 (result 0 (%2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg1
abbrev htbM0_0 : tbM0_0.IsWhole := Memref.isWhole_whole _
abbrev tbM0_1 : Memref sig .tc .smem S160 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`the frame claim`, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 1 rfl).trans ((hA c 1).trans (V_main_arg3 m c)),
      ((h c).2 main_arg4 (by decide : main_arg4 ∈ Pipeline.restRefs sig spec0)).trans (V_main_arg4 m c),
      (Pipeline.RDat.FramePost.arr_in h c 3 rfl).trans ((hA c 3).trans (V_main_arg5 m c)),
      ((h c).2 main_arg6 (by decide : main_arg6 ∈ Pipeline.restRefs sig spec0)).trans (V_main_arg6 m c)⟩) h

/-! ## The kernel body on any staging memrefs -/

/-- Each window's current staging memref at point `t`, spelled as the pipeline passes it (`bodyAt0`), and its wholeness. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Ex

end
-- ==== Proof.ExpertsBody.lean ====
/- The experts' kernel body at one grid point, from any contents of its operands: the two weight scratches are refreshed from the point's
   expert where the table's word moves (and at the first point), and the tile's result is the expert's layer of the tile where the tile
   is valid, zero where its mark is zero. -/
module

public import proofs.«01_k».proof.Proof.ExpertsKit
public import Idealize.ShloMosaic.Lib.Pipeline.ValueKit.Basic
public import Idealize.ShloMosaic.Lib.VecWindow

@[expose] public section

set_option maxRecDepth 16384

noncomputable section

namespace Cert.Kernel2Ideal.Ex

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The words the body loads from the two tables at a grid point: the tile's expert, the tile before's, and the tile's mark (twice). -/
def expertW (c : Dev nD) (i : grid0.Coords) (te : TbBuf0 (F := F) c tbM0_0) : BitVec 32 :=
  View.readAt (Elt F) tbM0_0.view (Rect.unit (s := S160) (k0_off1 i) S1.size (k0_off1_inb i)).toLoadRect te (Shape.Idx.first (numel1_S1.symm ▸ Nat.one_pos))
@[inherit_doc expertW] def priorW (c : Dev nD) (i : grid0.Coords) (te : TbBuf0 (F := F) c tbM0_0) : BitVec 32 :=
  View.readAt (Elt F) tbM0_0.view (Rect.unit (s := S160) (k0_off2 i) S1.size (k0_off2_inb i)).toLoadRect te (Shape.Idx.first (numel1_S1.symm ▸ Nat.one_pos))
@[inherit_doc expertW] def markW (c : Dev nD) (i : grid0.Coords) (tv : TbBuf0 (F := F) c tbM0_1) : BitVec 32 :=
  View.readAt (Elt F) tbM0_1.view (Rect.unit (s := S160) (k0_off3 i) S1.size (k0_off3_inb i)).toLoadRect tv (Shape.Idx.first (numel1_S1.symm ▸ Nat.one_pos))
@[inherit_doc expertW] def markW' (c : Dev nD) (i : grid0.Coords) (tv : TbBuf0 (F := F) c tbM0_1) : BitVec 32 :=
  View.readAt (Elt F) tbM0_1.view (Rect.unit (s := S160) (k0_off4 i) S1.size (k0_off4_inb i)).toLoadRect tv (Shape.Idx.first (numel1_S1.symm ▸ Nat.one_pos))

/-- The body's first condition: the first point, or a tile whose expert is not the tile before's. -/
def freshW (i : grid0.Coords) (a b : BitVec 32) : BitVec 1 :=
  Scalar.cmpi .ne (Scalar.extui (Scalar.ori (Scalar.cmpi .eq (BitVec.ofNat 32 (i 0).val) 0#32) (Scalar.cmpi .ne a b))) 0#32

/-- A load of a whole buffer reads its contents. -/
theorem load_full {s : Shape} {e : EltTy} (v : View sig .tc .vmem s e) (f : v.ty.Contents (Elt F)) {off : Fin s.rank → ℕ}
    (inb : ∀ a, off a + s.size a ≤ s.size a) : View.readAt (Elt F) v (Rect.unit off s.size inb).toLoadRect f = v.read (Elt F) f :=
  (View.readAt_eq_ld v f (Rect.unit off s.size inb)).trans (View.ld_unit_lit inb _ fun a => by have := inb a; omega)

/-- A buffer overwritten whole under a condition reads the new contents where it holds, the old where not. -/
theorem read_if {s : Shape} {e : EltTy} (M : Memref sig .tc .vmem s e) (f : M.view.ty.Contents (Elt F)) {a b : BitVec 1} (h : a = b)
    {off : Fin s.rank → ℕ} (inb : ∀ a, off a + s.size a ≤ s.size a) (w : s.Idx → Elt F e) :
    M.view.read (Elt F) (if hc : a = 1#1 then M.view.writes (Elt F) f [⟨Rect.unit off s.size inb, w⟩] else f)
      = if b = 1#1 then w else M.view.read (Elt F) f := by
  subst h
  by_cases hc : a = 1#1
  · rw [dif_pos hc, if_pos hc]; exact View.read_writes_full _ _ inb w []
  · rw [dif_neg hc, if_neg hc]

/-- The scratches after the point, from what they held before it, -/
def wguAt (c : Dev nD) (i : grid0.Coords) (te : TbBuf0 (F := F) c tbM0_0) (x1 : Vec F S1x1024x2048 .f32) (s0 : Vec F S1024x2048 .bf16) : Vec F S1024x2048 .bf16 :=
  if freshW i (expertW c i te) (priorW c i te) = 1#1 then k0_pay1 x1 else s0
@[inherit_doc wguAt] def wdAt (c : Dev nD) (i : grid0.Coords) (te : TbBuf0 (F := F) c tbM0_0) (x3 : Vec F S1x1024x1024 .f32) (s1 : Vec F S1024x1024 .bf16) : Vec F S1024x1024 .bf16 :=
  if freshW i (expertW c i te) (priorW c i te) = 1#1 then k0_pay2 x3 else s1
/-- and the tile's result, from the tile, the scratches after the refresh and the biases. -/
def outAt (c : Dev nD) (i : grid0.Coords) (tv : TbBuf0 (F := F) c tbM0_1) (x0 : Vec F S512x1024 .f32) (g : Vec F S1024x2048 .bf16) (x2 : Vec F S1x1x2048 .f32)
    (d : Vec F S1024x1024 .bf16) (x4 : Vec F S1x1x1024 .f32) (o : Vec F S512x1024 .f32) : Vec F S512x1024 .f32 :=
  if k0_cond3 (markW' c i tv) = 1#1 then k0_pay4 else if k0_cond2 (markW c i tv) = 1#1 then k0_pay3 x0 g x2 d x4 else o

/-- The expert's layer of equal operands. -/
theorem pay3_congr {x x' : Vec F S512x1024 .f32} {g g' : Vec F S1024x2048 .bf16} {b b' : Vec F S1x1x2048 .f32} {d d' : Vec F S1024x1024 .bf16}
    {u u' : Vec F S1x1x1024 .f32} (hx : x = x') (hg : g = g') (hb : b = b') (hd : d = d') (hu : u = u') : k0_pay3 x g b d u = k0_pay3 x' g' b' d' u' := by
  subst hx hg hb hd hu; rfl

set_option maxHeartbeats 1000000 in
/-- The body's triple: on whole buffers at any contents it leaves the inputs and the tables as they were, and the scratches and the
    result at `wguAt`, `wdAt` and `outAt` of what it found. -/
theorem body (c : Dev nD) (i : grid0.Coords) (arg3 : Memref sig .tc .vmem S512x1024 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .f32) (harg8 : arg8.IsWhole)
    (arg9 : Memref sig .tc .vmem S1024x2048 .bf16) (harg9 : arg9.IsWhole) (arg10 : Memref sig .tc .vmem S1024x1024 .bf16) (harg10 : arg10.IsWhole)
    (x0 : Vec F S512x1024 .f32) (x1 : Vec F S1x1024x2048 .f32) (x2 : Vec F S1x1x2048 .f32) (x3 : Vec F S1x1024x1024 .f32) (x4 : Vec F S1x1x1024 .f32)
    (o : Vec F S512x1024 .f32) (s0 : Vec F S1024x2048 .bf16) (s1 : Vec F S1024x1024 .bf16) (te : TbBuf0 (F := F) c tbM0_0) (tv : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare o ∗ owns (c : Thread nD τ) arg9 fullShare s0 ∗ owns (c : Thread nD τ) arg10 fullShare s1 ∗ tbPt0 c tbM0_0 te ∗ tbPt0 c tbM0_1 tv
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outAt c i tv x0 (wguAt c i te x1 s0) x2 (wdAt c i te x3 s1) x4 o)
            ∗ owns (c : Thread nD τ) arg9 fullShare (wguAt c i te x1 s0) ∗ owns (c : Thread nD τ) arg10 fullShare (wdAt c i te x3 s1)
            ∗ tbPt0 c tbM0_0 te ∗ tbPt0 c tbM0_1 tv) -∗ K ⟨⟩))
          ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
  intro E K
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  have e9 := fun w => (read_if arg9 fs0 (rfl : freshW i (expertW c i te) (priorW c i te) = _) inb_S1024x2048_S1024x2048_0_0 (k0_pay1 w)).trans (if_congr Iff.rfl rfl hfs0)
  have e10 := fun w => (read_if arg10 fs1 (rfl : freshW i (expertW c i te) (priorW c i te) = _) inb_S1024x1024_S1024x1024_0_0 (k0_pay2 w)).trans (if_congr Iff.rfl rfl hfs1)
  isplitl [H5]
  · iexists _; isplitr; swap; · iexact H5
    ipureintro
    refine (read_if arg8 _ rfl _ _).trans ?_
    unfold outAt
    refine if_congr Iff.rfl rfl ?_
    refine (read_if arg8 _ rfl _ _).trans ?_
    refine if_congr Iff.rfl ?_ hf5
    exact pay3_congr ((load_full _ _ _).trans hf0) ((load_full _ _ _).trans ((e9 _).trans (congrArg (wguAt c i te · s0) ((load_full _ _ _).trans hf1))))
      ((load_full _ _ _).trans hf2) ((load_full _ _ _).trans ((e10 _).trans (congrArg (wdAt c i te · s1) ((load_full _ _ _).trans hf3)))) ((load_full _ _ _).trans hf4)
  isplitl [HS0]
  · iexists _; isplitr; swap; · iexact HS0
    ipureintro
    exact (e9 _).trans (congrArg (wguAt c i te · s0) ((load_full _ _ _).trans hf1))
  isplitl [HS1]
  · iexists _; isplitr; swap; · iexact HS1
    ipureintro
    exact (e10 _).trans (congrArg (wdAt c i te · s1) ((load_full _ _ _).trans hf3))
  isplitl [HT0]; · iexact HT0
  iexact HT1

end Cert.Kernel2Ideal.Ex

end
-- ==== Proof.ExpertsFrame.lean ====
/- The experts' kernel, whole: what its scratches and its result hold point by point, the run of the program, and its frame. The scratches
   hold, after a point, the rounded weights of the point's expert: refreshed there or, where the table's word has not moved, kept. -/
module

public import proofs.«01_k».proof.Proof.ExpertsBody
public import Idealize.ShloMosaic.Lib.Claim

@[expose] public section

set_option maxRecDepth 16384

noncomputable section

namespace Cert.Kernel2Ideal.Ex

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's place in the two tables. -/
def here (i : grid0.Coords) : S160.Idx := fun | ⟨0, _⟩ => ⟨(i 0).val, (i 0).isLt⟩
/-- The place before it (the first point's own). -/
def prior (i : grid0.Coords) : S160.Idx := fun | ⟨0, _⟩ => ⟨(i 0).val - 1, lt_of_le_of_lt (Nat.sub_le _ _) (i 0).isLt⟩

/-- The tables' offsets the body reads at, as numbers. -/
theorem off1 : ∀ i : grid0.Coords, k0_off1 i 0 + 1 * 0 = (i 0).val := by decide +kernel
theorem off2 : ∀ i : grid0.Coords, k0_off2 i 0 + 1 * 0 = (i 0).val - 1 := by decide +kernel
theorem off3 : ∀ i : grid0.Coords, k0_off3 i 0 + 1 * 0 = (i 0).val := by decide +kernel
theorem off4 : ∀ i : grid0.Coords, k0_off4 i 0 + 1 * 0 = (i 0).val := by decide +kernel

theorem expertW_eq (c : Dev nD) (i : grid0.Coords) (te : TbBuf0 (F := F) c tbM0_0) : expertW c i te = te (here i) := by
  unfold expertW
  refine congrArg te (funext fun a => Fin.ext ?_)
  match a with
  | ⟨0, _⟩ => exact off1 i
theorem priorW_eq (c : Dev nD) (i : grid0.Coords) (te : TbBuf0 (F := F) c tbM0_0) : priorW c i te = te (prior i) := by
  unfold priorW
  refine congrArg te (funext fun a => Fin.ext ?_)
  match a with
  | ⟨0, _⟩ => exact off2 i
theorem markW_eq (c : Dev nD) (i : grid0.Coords) (tv : TbBuf0 (F := F) c tbM0_1) : markW c i tv = tv (here i) := by
  unfold markW
  refine congrArg tv (funext fun a => Fin.ext ?_)
  match a with
  | ⟨0, _⟩ => exact off3 i
theorem markW'_eq (c : Dev nD) (i : grid0.Coords) (tv : TbBuf0 (F := F) c tbM0_1) : markW' c i tv = tv (here i) := by
  unfold markW'
  refine congrArg tv (funext fun a => Fin.ext ?_)
  match a with
  | ⟨0, _⟩ => exact off4 i

/-- The tile marks the kernel's two conditions read leave no tile unwritten. -/
def Marked : Prop := ∀ i : grid0.Coords, k0_cond3 (tbl m 1 (here i)) = 1#1 ∨ k0_cond2 (tbl m 1 (here i)) = 1#1

/-- What the kernel leaves in the result's block at point `t`: zero where the tile's mark is zero, the expert's layer of the tile elsewhere. -/
def tile (hO : Ok m) (c : Dev nD) (t : Fin (cfgM m hO).N) : Vec F S512x1024 .f32 :=
  if k0_cond3 (tbl m 1 (here (grid0.coords t))) = 1#1 then k0_pay4
  else k0_pay3 (iblk m hO c 0 t) (k0_pay1 (iblk m hO c 1 t)) (iblk m hO c 2 t) (k0_pay2 (iblk m hO c 3 t)) (iblk m hO c 4 t)

/-- The scratches before point `k` (after point `k - 1`): at the last point's expert's rounded weights; at anything before the first. -/
def scratch (hO : Ok m) (c : Dev nD) (k : Fin ((cfgM m hO).N + 1)) : sProp 𝕄 :=
  iprop((∃ s, ⌜∀ t : Fin (cfgM m hO).N, t.val + 1 = k.val → s = k0_pay1 (iblk m hO c 1 t)⌝ ∗ owns (c : Thread nD τ) scM0_0 fullShare s)
    ∗ (∃ s, ⌜∀ t : Fin (cfgM m hO).N, t.val + 1 = k.val → s = k0_pay2 (iblk m hO c 3 t)⌝ ∗ owns (c : Thread nD τ) scM0_1 fullShare s))

/-- The proof data of the pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => tile m hO c t
  Φ k := iprop((scratch m hO c k ∗ ∃ r, prngReg c r) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = tile m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## A point whose expert is the point before's -/

theorem coords_val : ∀ t : Fin grid0.N, (grid0.coords t 0).val = t.val := by decide +kernel

/-- The body refreshes the scratches at the first point, -/
theorem fresh_of_zero {i : grid0.Coords} (a b : BitVec 32) (h : (i 0).val = 0) : freshW i a b = 1#1 := by
  unfold freshW
  rw [h]
  generalize Scalar.cmpi .ne a b = q
  revert q; decide
/-- and where the word moves. -/
theorem fresh_of_ne (i : grid0.Coords) {a b : BitVec 32} (h : a ≠ b) : freshW i a b = 1#1 := by
  unfold freshW
  rw [show Scalar.cmpi .ne a b = 1#1 from (WordCmp.cmpi_ne_eq a b).trans (by simp [h])]
  generalize Scalar.cmpi .eq (BitVec.ofNat 32 (i 0).val) 0#32 = q
  revert q; decide

theorem word_at (i : grid0.Coords) :
    (tbl m).at 0 (Rect.unit (s := S160) (k0_off1 i) S1.size (k0_off1_inb i)) numel1_S1 = tbl m 0 (here i) :=
  expertW_eq 0 i (tbl m 0)

/-- The weights' windows stand at the block the tile's word names. -/
theorem index1 (hO : Ok m) (t : Fin (cfgM m hO).N) : ((cfgM m hO).win 1).index t = ![(show BitVec 32 from tbl m 0 (here (grid0.coords t))).toNat, 0, 0] := by
  rw [← word_at m (grid0.coords t)]; rfl
theorem index3 (hO : Ok m) (t : Fin (cfgM m hO).N) : ((cfgM m hO).win 3).index t = ![(show BitVec 32 from tbl m 0 (here (grid0.coords t))).toNat, 0, 0] := by
  rw [← word_at m (grid0.coords t)]; rfl

/-- Window 1's block is what a fetch at the point brings, -/
theorem fetched1 (hO : Ok m) (c : Dev nD) (t : Fin (cfgM m hO).N) (d) : (dats m hO 0 c).fetched 1 t d = iblk m hO c 1 t := by
  unfold Dat.fetched Dat.blockOf iblk; rw [A_eq]; try rfl
/-- so two points of one expert find the same weights. -/
theorem fetched1_congr (hO : Ok m) (c : Dev nD) (t t' : Fin (cfgM m hO).N) (h : ((cfgM m hO).win 1).index t = ((cfgM m hO).win 1).index t') (d) :
    (dats m hO 0 c).fetched 1 t d = (dats m hO 0 c).fetched 1 t' d :=
  (dats m hO 0 c).fetched_congr 1 h rfl d
theorem iblk1_congr (hO : Ok m) (c : Dev nD) (t t' : Fin (cfgM m hO).N) (h : tbl m 0 (here (grid0.coords t)) = tbl m 0 (here (grid0.coords t'))) :
    (iblk m hO c 1 t : Vec F S1x1024x2048 .f32) = iblk m hO c 1 t' := by
  have hi : ((cfgM m hO).win 1).index t = ((cfgM m hO).win 1).index t' := by rw [index1, index1, h]
  have e := fetched1_congr m hO c t t' hi (iblk m hO c 1 t)
  rw [fetched1, fetched1] at e
  exact e
/-- Window 3's block is what a fetch at the point brings, -/
theorem fetched3 (hO : Ok m) (c : Dev nD) (t : Fin (cfgM m hO).N) (d) : (dats m hO 0 c).fetched 3 t d = iblk m hO c 3 t := by
  unfold Dat.fetched Dat.blockOf iblk; rw [A_eq]; try rfl
/-- so two points of one expert find the same weights. -/
theorem fetched3_congr (hO : Ok m) (c : Dev nD) (t t' : Fin (cfgM m hO).N) (h : ((cfgM m hO).win 3).index t = ((cfgM m hO).win 3).index t') (d) :
    (dats m hO 0 c).fetched 3 t d = (dats m hO 0 c).fetched 3 t' d :=
  (dats m hO 0 c).fetched_congr 3 h rfl d
theorem iblk3_congr (hO : Ok m) (c : Dev nD) (t t' : Fin (cfgM m hO).N) (h : tbl m 0 (here (grid0.coords t)) = tbl m 0 (here (grid0.coords t'))) :
    (iblk m hO c 3 t : Vec F S1x1024x1024 .f32) = iblk m hO c 3 t' := by
  have hi : ((cfgM m hO).win 3).index t = ((cfgM m hO).win 3).index t' := by rw [index3, index3, h]
  have e := fetched3_congr m hO c t t' hi (iblk m hO c 3 t)
  rw [fetched3, fetched3] at e
  exact e
theorem expert_at (c : Dev nD) (i : grid0.Coords) : expertW c i (tbl m 0) = tbl m 0 (here i) := expertW_eq c i (tbl m 0)
theorem prior_at (c : Dev nD) (i : grid0.Coords) : priorW c i (tbl m 0) = tbl m 0 (prior i) := priorW_eq c i (tbl m 0)
theorem mark_at (c : Dev nD) (i : grid0.Coords) : markW c i (tbl m 1) = tbl m 1 (here i) := markW_eq c i (tbl m 1)
theorem mark_at' (c : Dev nD) (i : grid0.Coords) : markW' c i (tbl m 1) = tbl m 1 (here i) := markW'_eq c i (tbl m 1)

/-- Where the scratches are not refreshed, there is a point before, and it has the same expert. -/
theorem kept (hO : Ok m) (c : Dev nD) (t : Fin (cfgM m hO).N)
    (h : ¬freshW (grid0.coords t) (expertW c (grid0.coords t) (tbl m 0)) (priorW c (grid0.coords t) (tbl m 0)) = 1#1) :
    ∃ t' : Fin (cfgM m hO).N, t'.val + 1 = t.val ∧ tbl m 0 (here (grid0.coords t')) = tbl m 0 (here (grid0.coords t)) := by
  have h0 : t.val ≠ 0 := fun e => h (fresh_of_zero _ _ ((coords_val t).trans e))
  have h1 : expertW c (grid0.coords t) (tbl m 0) = priorW c (grid0.coords t) (tbl m 0) := by
    by_contra e; exact h (fresh_of_ne _ e)
  refine ⟨⟨t.val - 1, lt_of_le_of_lt (Nat.sub_le _ _) t.isLt⟩, by simp only; omega, ?_⟩
  refine Eq.trans ?_ (((expert_at m c _).symm.trans h1).trans (prior_at m c _)).symm
  refine congrArg (tbl m 0) (funext fun a => ?_)
  match a with
  | ⟨0, _⟩ => exact Fin.ext ((coords_val _).trans (congrArg (· - 1) (coords_val t).symm))

/-- So after a point the scratches hold its expert's rounded weights. -/
theorem wgu_step (hO : Ok m) (c : Dev nD) (t : Fin (cfgM m hO).N) (s : Vec F S1024x2048 .bf16)
    (hs : ∀ t' : Fin (cfgM m hO).N, t'.val + 1 = t.val → s = k0_pay1 (iblk m hO c 1 t')) :
    wguAt c (grid0.coords t) (tbl m 0) (iblk m hO c 1 t) s = k0_pay1 (iblk m hO c 1 t) := by
  unfold wguAt
  split
  · rfl
  · next h =>
    obtain ⟨t', h1, h2⟩ := kept m hO c t h
    rw [hs t' h1, iblk1_congr m hO c t' t h2]
theorem wd_step (hO : Ok m) (c : Dev nD) (t : Fin (cfgM m hO).N) (s : Vec F S1024x1024 .bf16)
    (hs : ∀ t' : Fin (cfgM m hO).N, t'.val + 1 = t.val → s = k0_pay2 (iblk m hO c 3 t')) :
    wdAt c (grid0.coords t) (tbl m 0) (iblk m hO c 3 t) s = k0_pay2 (iblk m hO c 3 t) := by
  unfold wdAt
  split
  · rfl
  · next h =>
    obtain ⟨t', h1, h2⟩ := kept m hO c t h
    rw [hs t' h1, iblk3_congr m hO c t' t h2]

/-- Every tile being marked, the body leaves the result at `tile`. -/
theorem out_step (hO : Ok m) (hM : Marked m) (c : Dev nD) (t : Fin (cfgM m hO).N) (o : Vec F S512x1024 .f32) :
    outAt c (grid0.coords t) (tbl m 1) (iblk m hO c 0 t) (k0_pay1 (iblk m hO c 1 t)) (iblk m hO c 2 t) (k0_pay2 (iblk m hO c 3 t)) (iblk m hO c 4 t) o
      = tile m hO c t := by
  unfold outAt tile
  have e1 := mark_at m c (grid0.coords t)
  have e2 := mark_at' m c (grid0.coords t)
  by_cases h : k0_cond3 (tbl m 1 (here (grid0.coords t))) = 1#1
  · exact (if_pos (e2.symm ▸ h)).trans (if_pos h).symm
  · exact (if_neg (e2.symm ▸ h)).trans ((if_pos (e1.symm ▸ (hM _).resolve_left h)).trans (if_neg h).symm)

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 1600000 in
/-- The body at any point: the inputs' memrefs hold their blocks, the scratches what the point before left; the triple applies. -/
theorem sound_body (hO : Ok m) (hM : Marked m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.castSucc = iprop((scratch m hO c t.castSucc ∗ ∃ r, prngReg c r) ∗ Pipeline.ΦT pre0 (tbl m) c) from rfl,
    show (dats m hO 0 c).Φ t.succ = iprop((scratch m hO c t.succ ∗ ∃ r, prngReg c r) ∗ Pipeline.ΦT pre0 (tbl m) c) from rfl, PhiT0_eq]
  unfold scratch
  iintro ⟨⟨⟨⟨⟨%s0, %hs0, HS0⟩, ⟨%s1, %hs1, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
  iapply ((body c (grid0.coords t) _ _ _ _ _ _ _ _ _ _ _ _ _ _ _ _ (iblk m hO c 0 t) (iblk m hO c 1 t) (iblk m hO c 2 t) (iblk m hO c 3 t) (iblk m hO c 4 t) _ s0 s1 (tbl m 0) (tbl m 1)) Set.univ _)
  rw [wgu_step m hO c t s0 hs0, wd_step m hO c t s1 hs1, out_step m hO hM c t]
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexists _; isplitr; swap; · iexact HS0
          ipureintro; intro t' h'; obtain rfl : t' = t := Fin.ext (Nat.succ_injective h'); rfl
        · iexists _; isplitr; swap; · iexact HS1
          ipureintro; intro t' h'; obtain rfl : t' = t := Fin.ext (Nat.succ_injective h'); rfl
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A window written back at a point is left at what the body leaves, idle there or not. -/
theorem leaves5 (b f : Bool) (X Y : sProp 𝕄) :
    f = true → (Y ⊢ (match b with | true => (match f with | false => X | true => Y) | false => Y)) := by
  rintro rfl; cases b <;> exact .rfl

/-- The library's body obligation, at every point. -/
theorem body_obligation (hO : Ok m) (hM : Marked m) (c : Dev nD) : BodyObligation (dats (F := F) m hO 0 c) (defs₀ (F := F)) Variants.none () Set.univ := fun t => by
  rw [bigSep_W0, bigSep_W0, defs₀_row m hO]
  refine triple_restated (sound_body m hO hM c t) rfl .rfl fun _ => ?_
  exact sep_mono .rfl (sep_mono .rfl (sep_mono .rfl (sep_mono .rfl (sep_mono .rfl (sep_mono .rfl (sep_mono .rfl
    (leaves5 ((cfgM m hO).idle 5 ((cfgM m hO).grid.coords t)) (((cfgM m hO).win 5).flush t)
      iprop(∃ d, owns c (ms0_5 m hO t) fullShare ((dats m hO 0 c).before 5 t d))
      iprop(owns c (ms0_5 m hO t) fullShare ((dats m hO 0 c).after 5 t)) (flush0_5 (adm m hO) t))))))))

/-! ## The run and the frame -/

/-- Before the first point the scratches hold anything. -/
theorem hin (hO : Ok m) (c : Dev nD) : iprop(Pipeline.ΦA spec0 c ∗ Pipeline.ΦT pre0 (tbl m) c) ⊢ (dats m hO 0 c).Φ 0 := by
  rw [PhiA0_eq, show (dats m hO 0 c).Φ 0 = iprop((scratch m hO c 0 ∗ ∃ r, prngReg c r) ∗ Pipeline.ΦT pre0 (tbl m) c) from rfl]
  unfold scratch
  iintro ⟨⟨⟨⟨%s0, HS0⟩, ⟨%s1, HS1⟩⟩, Hg⟩, HT⟩
  isplitl [HS0 HS1 Hg]
  · isplitl [HS0 HS1]
    · isplitl [HS0]
      · iexists s0; isplitr; swap; · iexact HS0
        ipureintro; intro t' h'; exact absurd h' (Nat.succ_ne_zero _)
      · iexists s1; isplitr; swap; · iexact HS1
        ipureintro; intro t' h'; exact absurd h' (Nat.succ_ne_zero _)
    iexact Hg
  iexact HT
/-- After the last point what they hold is forgotten. -/
theorem hout (hO : Ok m) (c : Dev nD) : (dats m hO 0 c).Φ (Fin.last (cfgM m hO).N) ⊢ Pipeline.ΦA spec0 c := by
  rw [PhiA0_eq, show (dats m hO 0 c).Φ (Fin.last (cfgM m hO).N) = iprop((scratch m hO c (Fin.last (cfgM m hO).N) ∗ ∃ r, prngReg c r) ∗ Pipeline.ΦT pre0 (tbl m) c) from rfl]
  unfold scratch
  iintro ⟨⟨⟨⟨%s0, %hs0, HS0⟩, ⟨%s1, %hs1, HS1⟩⟩, Hg⟩, HT⟩
  isplitl [HS0 HS1]
  · isplitl [HS0]
    · iexists s0; iexact HS0
    · iexists s1; iexact HS1
  iexact Hg

set_option backward.isDefEq.respectTransparency.types false in
/-- THE RUN: every weakly fair execution terminates, every array of the pipeline at what the data say after every write-back, every other
    buffer as the region found it, every counter at zero. -/
theorem run_main_quiescent (hO : Ok m) (hM : Marked m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO hM c).loose) (hshare := fun c => (dats m hO 0 c).share_full fun _ => rfl)
    (howed := fun _ _ => rfl) (V := V m) (hmain := hmain m Variants.none) (hA := A_eq m hO) (hpf := V_pre m)
    (hin := hin m hO) (hout := hout m hO)

/-- What the program does to its arguments: nothing. -/
theorem unchanged (hO : Ok m) (c : Dev nD) (r : PUnit × MemSt nD τ sig (Elt F))
    (h : Pipeline.FramePost (Pipeline.pin pcfgs fun _ => adm m hO) (dats m hO) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m hO 0 c).arrAt_in 0 rfl _).trans ((A_eq m hO c 0).trans (V_main_arg0 m c))),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).1 1).trans (((dats m hO 0 c).arrAt_in 1 rfl _).trans ((A_eq m hO c 1).trans (V_main_arg3 m c))),
    ((h c).2 main_arg4 (by decide : main_arg4 ∈ Pipeline.restRefs sig spec0)).trans (V_main_arg4 m c),
    ((h c).1 3).trans (((dats m hO 0 c).arrAt_in 3 rfl _).trans ((A_eq m hO c 3).trans (V_main_arg5 m c))),
    ((h c).2 main_arg6 (by decide : main_arg6 ∈ Pipeline.restRefs sig spec0)).trans (V_main_arg6 m c)⟩

end Cert.Kernel2Ideal.Ex

end
-- ==== Proof.ExpertLayer.lean ====
/- One expert's layer of one row, in extended reals: a product with a bias, the gated units, a second product with a bias. -/
module

public import Idealize.ShloMosaic.PureOps.Ideal

@[expose] public section

noncomputable section

namespace Cert.ExpertLayer

open Idealize.ShloMosaic

/-- The numbers the layer uses, as their bits read: seven, minus seven, 1.702. -/
abbrev seven : EReal := Ideal.ofBits .f32 0x40E00000#32
abbrev minusSeven : EReal := Ideal.ofBits .f32 0xC0E00000#32
abbrev alpha : EReal := Ideal.ofBits .f32 0x3FD9DB23#32

/-- An entry of the hidden layer. -/
def hid (x : Fin 1024 → EReal) (w : Fin 1024 → Fin 2048 → EReal) (b : Fin 2048 → EReal) (f : Fin 2048) : EReal :=
  (∑ d, x d * w d f) + b f

/-- A gated unit, of its gate and of its other half. -/
def swiglu (g u : EReal) : EReal :=
  (min seven (max minusSeven u) + 1) * (min g seven * Ideal.div 1 (1 + Ideal.exp (-(alpha * min g seven))))

/-- The units of a hidden layer: the first 1024 entries are the gates. -/
def unit (h : Fin 2048 → EReal) (f : Fin 1024) : EReal := swiglu (h ⟨f.val, by omega⟩) (h ⟨1024 + f.val, by omega⟩)

/-- An entry of the expert's row. -/
def layer (x : Fin 1024 → EReal) (w : Fin 1024 → Fin 2048 → EReal) (b : Fin 2048 → EReal) (w' : Fin 1024 → Fin 1024 → EReal) (b' : Fin 1024 → EReal)
    (j : Fin 1024) : EReal :=
  (∑ f, unit (hid x w b) f * w' f j) + b' j

/-- The bits of minus 1.702 read minus what those of 1.702 read. -/
theorem minus_alpha : Ideal.ofBits .f32 0xBFD9DB23#32 = -alpha := by
  simp [alpha, Ideal.ofBits, Ideal.ieee]

/-- The expert a word names. -/
def expertOf (te : BitVec 32) : Fin 32 := ⟨te.toNat % 32, Nat.mod_lt _ (by decide)⟩

/-- The tile of a row: 512 rows to a tile. -/
def tileOf (r : Fin 81920) : Fin 160 := ⟨r.val / 512, by omega⟩

/-- The entry of the layer's result: where the tile's mark is positive, the row's layer by the tile's expert; zero elsewhere. -/
def entry (x : Fin 81920 → Fin 1024 → EReal) (te tv : Fin 160 → BitVec 32) (w : Fin 32 → Fin 1024 → Fin 2048 → EReal) (b : Fin 32 → Fin 2048 → EReal)
    (w' : Fin 32 → Fin 1024 → Fin 1024 → EReal) (b' : Fin 32 → Fin 1024 → EReal) (r : Fin 81920) (j : Fin 1024) : EReal :=
  if 0 < (tv (tileOf r)).toInt then
    layer (x r) (w (expertOf (te (tileOf r)))) (b (expertOf (te (tileOf r)))) (w' (expertOf (te (tileOf r)))) (b' (expertOf (te (tileOf r)))) j
  else 0

/-- The entry, from the words of the row's tile. -/
theorem entry_eq {x : Fin 81920 → Fin 1024 → EReal} {te tv : Fin 160 → BitVec 32} {w : Fin 32 → Fin 1024 → Fin 2048 → EReal} {b : Fin 32 → Fin 2048 → EReal}
    {w' : Fin 32 → Fin 1024 → Fin 1024 → EReal} {b' : Fin 32 → Fin 1024 → EReal} {r : Fin 81920} (j : Fin 1024) {p q : BitVec 32}
    (hp : te (tileOf r) = p) (hq : tv (tileOf r) = q) : entry x te tv w b w' b' r j
      = if 0 < q.toInt then layer (x r) (w (expertOf p)) (b (expertOf p)) (w' (expertOf p)) (b' (expertOf p)) j else 0 := by
  subst hp hq; rfl

/-- A sum over the experts whose gates are one at the named expert and zero elsewhere is the named expert's term. -/
theorem sum_gates (p : Prop) [Decidable p] (te : BitVec 32) (ht : te.toNat < 32) (y : Fin 32 → EReal) :
    (∑ e : Fin 32, (if p ∧ te = BitVec.ofNat 32 e.val then (1 : EReal) else 0) * y e) = if p then y (expertOf te) else 0 := by
  by_cases hp : p
  · rw [if_pos hp, Finset.sum_eq_single (expertOf te)]
    · rw [if_pos, one_mul]
      refine ⟨hp, BitVec.eq_of_toNat_eq ?_⟩
      rw [BitVec.toNat_ofNat]
      show _ = te.toNat % 32 % 2 ^ 32
      omega
    · intro e _ he
      rw [if_neg, zero_mul]
      rintro ⟨-, h⟩
      refine he (Fin.ext ?_)
      have h' := congrArg BitVec.toNat h
      rw [BitVec.toNat_ofNat] at h'
      show e.val = te.toNat % 32
      have := e.isLt
      omega
    · intro h; exact absurd (Finset.mem_univ _) h
  · rw [if_neg hp]
    refine Finset.sum_eq_zero fun e _ => ?_
    rw [if_neg (fun h => hp h.1), zero_mul]

end Cert.ExpertLayer

end
-- ==== Proof.ExpertsTile.lean ====
/- What the experts' kernel computes from one point's blocks: the layer of each row, or zero where the tile's mark is zero. -/
module

public import proofs.«01_k».proof.Proof.ExpertsFrame
public import proofs.«01_k».proof.Proof.ExpertLayer
public import Idealize.ShloMosaic.Lib.Pointwise

@[expose] public section

set_option maxRecDepth 16384

noncomputable section

namespace Cert.Kernel2Ideal.Ex

open Cert.Kernel2Ideal Cert.Kernel2Ideal.Gen Idealize.ShloMosaic Idealize.ShloMosaic.TcCoe Cert.ExpertLayer

/-- The block the kernel stores at a marked tile is the layer of each of its rows. -/
theorem pay3_apply (x0 : Vec Ideal S512x1024 .f32) (x1 : Vec Ideal S1x1024x2048 .f32) (x2 : Vec Ideal S1x1x2048 .f32) (x3 : Vec Ideal S1x1024x1024 .f32)
    (x4 : Vec Ideal S1x1x1024 .f32) (r : Fin 512) (j : Fin 1024) : k0_pay3 x0 (k0_pay1 x1) x2 (k0_pay2 x3) x4 (ix2 r j)
      = layer (fun d => x0 (ix2 r d)) (fun d f => x1 (ix3 0 d f)) (fun f => x2 (ix3 0 0 f)) (fun f j => x3 (ix3 0 f j)) (fun j => x4 (ix3 0 0 j)) j := by
  pointwise [k0_pay3, k0_pay1, k0_pay2]
  unfold layer ExpertLayer.unit swiglu hid
  simp only [minus_alpha, EReal.neg_mul]

/-- The block the kernel stores at an unmarked tile is zero. -/
theorem pay4_apply (r : Fin 512) (j : Fin 1024) : (k0_pay4 (F := Ideal)) (ix2 r j) = 0 := by
  pointwise [k0_pay4]

end Cert.Kernel2Ideal.Ex

end
-- ==== Proof.ExpertsTables.lean ====
/- What the precondition says of the experts' tables: every expert's block lies in the weights' arrays, and every tile is written. -/
module

public import proofs.«01_k».proof.Proof.ExpertsFrame
public import proofs.«01_k».proof.Proof.Gen.Pre_experts_in_range
public import Idealize.ShloMosaic.Lib.WordCmp

@[expose] public section

set_option maxRecDepth 16384

noncomputable section

namespace Cert.Kernel2Ideal.Ex

open Cert.Kernel2Ideal Cert.Kernel2Ideal.Gen Idealize.ShloMosaic Idealize.ShloMosaic.TcCoe

variable {F : FTy → Type} [FloatOps F]
variable (m : (ℓ : Loc nD τ sig) → Buf (Elt F) ℓ)

/-- The tables' contents are the arguments'. -/
theorem tbl0 : tbl m 0 = m ((0 : Dev nD), Proc.devRef .tc main_arg1) := V_main_arg1 m 0
theorem tbl1 : tbl m 1 = m ((0 : Dev nD), Proc.devRef .tc main_arg2) := V_main_arg2 m 0

/-- The tables are in range: each expert's word below 32, each mark not negative. -/
def InRange : Prop := ∀ x : S160.Idx, (show BitVec 32 from tbl m 0 x).toNat < 32 ∧ 0 ≤ (show BitVec 32 from tbl m 1 x).toInt

/-- The precondition's three comparisons of two words, as they read. -/
theorem words (a b : BitVec 32)
    (e : IntOp.andi (IntOp.andi (IntOp.cmpi .sge a 0#32) (IntOp.cmpi .slt a 32#32)) (IntOp.cmpi .sge b 0#32) = 1#1) : a.toNat < 32 ∧ 0 ≤ b.toInt := by
  rw [show IntOp.andi (IntOp.cmpi .sge a 0#32) (IntOp.cmpi .slt a 32#32) = _ from WordCmp.andi_sge_zero_slt_ofNat (k := 32) (by decide) a,
    WordCmp.cmpi_sge_eq, WordCmp.andi_ofBool] at e
  by_cases ha : a.toNat < 32 <;> by_cases hb : 0 ≤ b.toInt <;> simp_all

/-- The precondition says the tables are in range. -/
theorem inRange_of_pre (h : ∀ c : Dev nD, Cert.Pre_experts_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : InRange m := by
  intro x
  rw [tbl0, tbl1]
  have e := congrFun (h 0) x
  generalize m ((0 : Dev nD), Proc.devRef .tc main_arg1) = te at *
  generalize m ((0 : Dev nD), Proc.devRef .tc main_arg2) = tv at *
  simp only [Pre_experts_in_range.fn, andi, cmpi, broadcastInDim, constantI] at e
  exact words _ _ e

/-- In range, every window's block lies in its array. -/
theorem ok_of_inRange (h : InRange m) : Ok m := by
  have k : ∀ i : grid0.Coords, ((tbl m).at 0 (Rect.unit (s := S160) (k0_off1 i) S1.size (k0_off1_inb i)) numel1_S1).toNat < 32 := fun i => by
    rw [word_at m i]; exact (h _).1
  refine ⟨fun i => ⟨fun a => ?_, .inl rfl⟩, fun i => ⟨fun a => ?_, .inl rfl⟩, fun i => ⟨fun a => ?_, .inl rfl⟩, fun i => ⟨fun a => ?_, .inl rfl⟩⟩
  all_goals
    match a with
    | ⟨0, _⟩ =>
      show (((tbl m).at 0 (Rect.unit (s := S160) (k0_off1 i) S1.size (k0_off1_inb i)) numel1_S1).toNat + 1) * 1 ≤ 32
      have := k i
      omega
    | ⟨1, _⟩ => exact Nat.le_of_eq (Nat.one_mul _)
    | ⟨2, _⟩ => exact Nat.le_of_eq (Nat.one_mul _)

/-- The kernel's two conditions on a tile's mark, as they read. -/
theorem cond3_iff (v : BitVec 32) : k0_cond3 v = 1#1 ↔ v = 0#32 := by
  unfold k0_cond3
  dsimp only
  rw [show Scalar.cmpi .eq v 0#32 = _ from WordCmp.cmpi_eq_eq v 0#32]
  by_cases h : v = 0#32 <;> simp [h] <;> decide
theorem cond2_iff (v : BitVec 32) : k0_cond2 v = 1#1 ↔ 0 < v.toInt := by
  unfold k0_cond2
  dsimp only
  rw [show Scalar.cmpi .sgt v 0#32 = _ from WordCmp.cmpi_sgt_eq v 0#32]
  by_cases h : 0 < v.toInt <;> simp [h] <;> decide

/-- A mark that is not negative is zero or positive. -/
theorem cond3_iff_of_nonneg (v : BitVec 32) (h : 0 ≤ v.toInt) : k0_cond3 v = 1#1 ↔ ¬ 0 < v.toInt := by
  rw [cond3_iff]
  constructor
  · rintro rfl; decide
  · intro h'
    exact BitVec.eq_of_toInt_eq (by simp; omega)

/-- In range, every tile is written. -/
theorem marked_of_inRange (h : InRange m) : Marked m := fun i => by
  by_cases p : 0 < (show BitVec 32 from tbl m 1 (here i)).toInt
  · exact .inr ((cond2_iff _).mpr p)
  · exact .inl ((cond3_iff_of_nonneg _ (h _).2).mpr p)

end Cert.Kernel2Ideal.Ex

end
-- ==== Proof.ExpertsArray.lean ====
/- What the experts' kernel leaves in its whole result: the layer of each row by its tile's expert. -/
module

public import proofs.«01_k».proof.Proof.ExpertsTile
public import proofs.«01_k».proof.Proof.ExpertsTables
public import Idealize.ShloMosaic.Lib.Pipeline.ValueKit
public import Idealize.ShloMosaic.Lib.Pipeline.Covers

@[expose] public section

set_option maxRecDepth 16384

noncomputable section

namespace Cert.Kernel2Ideal.Ex

open Cert.Kernel2Ideal Cert.Kernel2Ideal.Gen Idealize.ShloMosaic Idealize.ShloMosaic.TcCoe Cert.ExpertLayer

variable (m : (ℓ : Loc nD τ sig) → Buf (Elt Ideal) ℓ)

/-- The blocks of the tokens' and the result's windows: the point's tile. -/
theorem idx0 : ∀ i : grid0.Coords, cc0_transform_0 i = ![(i 0).val, 0] := by decide +kernel
theorem idx5 : ∀ i : grid0.Coords, cc0_transform_5 i = ![(i 0).val, 0] := by decide +kernel
theorem index0 (hO : Ok m) (t : Fin (cfgM m hO).N) : ((cfgM m hO).win 0).index t = ![(grid0.coords t 0).val, 0] := idx0 _
theorem index5 (hO : Ok m) (t : Fin (cfgM m hO).N) : ((cfgM m hO).win 5).index t = ![(grid0.coords t 0).val, 0] := idx5 _
/-- The blocks of the biases' windows: the tile's expert. -/
theorem index2 (hO : Ok m) (t : Fin (cfgM m hO).N) : ((cfgM m hO).win 2).index t = ![(show BitVec 32 from tbl m 0 (here (grid0.coords t))).toNat, 0, 0] := by
  rw [← word_at m (grid0.coords t)]; rfl
theorem index4 (hO : Ok m) (t : Fin (cfgM m hO).N) : ((cfgM m hO).win 4).index t = ![(show BitVec 32 from tbl m 0 (here (grid0.coords t))).toNat, 0, 0] := by
  rw [← word_at m (grid0.coords t)]; rfl

/-- The result's blocks cover it. -/
theorem covers5 (hO : Ok m) : ((cfgM m hO).win 5).Covers :=
  Pipeline.Window.covers_of_index_surj _ rfl
    (fun a => match a with | ⟨0, _⟩ => (by decide : 0 < 512) | ⟨1, _⟩ => (by decide : 0 < 1024))
    fun β => by
      have h0 : (β (0 : Fin 2)).val < (81920 + 512 - 1) / 512 := (β (0 : Fin 2)).isLt
      have h1 : (β (1 : Fin 2)).val < (1024 + 1024 - 1) / 1024 := (β (1 : Fin 2)).isLt
      have hN : (cfgM m hO).N = 160 := (by decide +kernel : grid0.N = 160)
      refine ⟨⟨(β (0 : Fin 2)).val, lt_of_lt_of_eq (show _ < 160 by omega) hN.symm⟩, fun a => (congrFun (index5 m hO _) a).trans ?_⟩
      match a with
      | ⟨0, _⟩ => exact coords_val _
      | ⟨1, _⟩ =>
        show 0 = (β (1 : Fin 2)).val
        omega

/-- The tokens' block at an entry. -/
theorem x_apply (hO : Ok m) (c : Dev nD) (t : Fin (cfgM m hO).N) (r : Fin 512) (d : Fin 1024) (R : Fin 81920) (hR : R.val = (grid0.coords t 0).val * 512 + r.val) :
    (iblk m hO c 0 t : Vec Ideal S512x1024 .f32) (ix2 r d) = (m ((c.tc : Thread nD τ).loc main_arg0) : Vec Ideal S81920x1024 .f32) (ix2 R d) := by
  blk_ext [iblk, V, index0 m hO t]

/-- The first weights' block at an entry. -/
theorem w_apply (hO : Ok m) (c : Dev nD) (t : Fin (cfgM m hO).N) (d : Fin 1024) (f : Fin 2048) (e : Fin 32) (he : ((cfgM m hO).win 1).index t = ![e.val, 0, 0]) :
    (iblk m hO c 1 t : Vec Ideal S1x1024x2048 .f32) (ix3 0 d f) = (m ((c.tc : Thread nD τ).loc main_arg3) : Vec Ideal S32x1024x2048 .f32) (ix3 e d f) := by
  blk_ext [iblk, V, he]

/-- The second weights' block at an entry. -/
theorem w'_apply (hO : Ok m) (c : Dev nD) (t : Fin (cfgM m hO).N) (f : Fin 1024) (j : Fin 1024) (e : Fin 32) (he : ((cfgM m hO).win 3).index t = ![e.val, 0, 0]) :
    (iblk m hO c 3 t : Vec Ideal S1x1024x1024 .f32) (ix3 0 f j) = (m ((c.tc : Thread nD τ).loc main_arg5) : Vec Ideal S32x1024x1024 .f32) (ix3 e f j) := by
  blk_ext [iblk, V, he]

/-- The biases as the kernel is passed them, at an entry: an axis of one put in. -/
theorem V_v0_apply (c : Dev nD) (e : Fin 32) (f : Fin 2048) :
    (V m c main_v0 : Vec Ideal S32x1x2048 .f32) (ix3 e 0 f) = (m ((c.tc : Thread nD τ).loc main_arg4) : Vec Ideal S32x2048 .f32) (ix2 e f) := by
  unfold V
  entry_read
  pointwise
theorem V_v1_apply (c : Dev nD) (e : Fin 32) (j : Fin 1024) :
    (V m c main_v1 : Vec Ideal S32x1x1024 .f32) (ix3 e 0 j) = (m ((c.tc : Thread nD τ).loc main_arg6) : Vec Ideal S32x1024 .f32) (ix2 e j) := by
  unfold V
  entry_read
  pointwise

/-- A block of the biases' windows read from any contents. -/
theorem read2 (hO : Ok m) (t : Fin (cfgM m hO).N) (X : Vec Ideal S32x1x2048 .f32) (f : Fin 2048) (e : Fin 32)
    (he : ((cfgM m hO).win 2).index t = ![e.val, 0, 0]) :
    ((((cfgM m hO).win 2).blk t).view.read (Elt Ideal) X : Vec Ideal S1x1x2048 .f32) (ix3 0 0 f) = X (ix3 e 0 f) := by
  blk_ext [he]
theorem read4 (hO : Ok m) (t : Fin (cfgM m hO).N) (X : Vec Ideal S32x1x1024 .f32) (j : Fin 1024) (e : Fin 32)
    (he : ((cfgM m hO).win 4).index t = ![e.val, 0, 0]) :
    ((((cfgM m hO).win 4).blk t).view.read (Elt Ideal) X : Vec Ideal S1x1x1024 .f32) (ix3 0 0 j) = X (ix3 e 0 j) := by
  blk_ext [he]

/-- The first bias's block at an entry. -/
theorem b_apply (hO : Ok m) (c : Dev nD) (t : Fin (cfgM m hO).N) (f : Fin 2048) (e : Fin 32) (he : ((cfgM m hO).win 2).index t = ![e.val, 0, 0]) :
    (iblk m hO c 2 t : Vec Ideal S1x1x2048 .f32) (ix3 0 0 f) = (m ((c.tc : Thread nD τ).loc main_arg4) : Vec Ideal S32x2048 .f32) (ix2 e f) :=
  (read2 m hO t (V m c main_v0) f e he).trans (V_v0_apply m c e f)
/-- The second bias's block at an entry. -/
theorem b'_apply (hO : Ok m) (c : Dev nD) (t : Fin (cfgM m hO).N) (j : Fin 1024) (e : Fin 32) (he : ((cfgM m hO).win 4).index t = ![e.val, 0, 0]) :
    (iblk m hO c 4 t : Vec Ideal S1x1x1024 .f32) (ix3 0 0 j) = (m ((c.tc : Thread nD τ).loc main_arg6) : Vec Ideal S32x1024 .f32) (ix2 e j) :=
  (read4 m hO t (V m c main_v1) j e he).trans (V_v1_apply m c e j)

/-- The layer's result from the seven arguments. -/
def resultOf (c : Dev nD) : Fin 81920 → Fin 1024 → EReal :=
  entry (fun r d => (m ((c.tc : Thread nD τ).loc main_arg0) : Vec Ideal S81920x1024 .f32) (ix2 r d))
    (fun t => (m ((c.tc : Thread nD τ).loc main_arg1) : Vec Ideal S160 .i32) (ix1 t)) (fun t => (m ((c.tc : Thread nD τ).loc main_arg2) : Vec Ideal S160 .i32) (ix1 t))
    (fun e d f => (m ((c.tc : Thread nD τ).loc main_arg3) : Vec Ideal S32x1024x2048 .f32) (ix3 e d f))
    (fun e f => (m ((c.tc : Thread nD τ).loc main_arg4) : Vec Ideal S32x2048 .f32) (ix2 e f))
    (fun e f j => (m ((c.tc : Thread nD τ).loc main_arg5) : Vec Ideal S32x1024x1024 .f32) (ix3 e f j))
    (fun e j => (m ((c.tc : Thread nD τ).loc main_arg6) : Vec Ideal S32x1024 .f32) (ix2 e j))

/-- A point's place in the tables is its tile's. -/
theorem here_eq (i : grid0.Coords) (T : Fin 160) (hT : T.val = (i 0).val) : here i = ix1 T :=
  funext fun a => match a with | ⟨0, _⟩ => Fin.ext hT.symm

/-- What the kernel leaves in a tile at an entry is the layer's result there. -/
theorem tile_apply (hR : InRange m) (hO : Ok m) (c : Dev nD) (t : Fin (cfgM m hO).N) (r : Fin 512) (j : Fin 1024) (R : Fin 81920)
    (h : R.val = (grid0.coords t 0).val * 512 + r.val) : tile m hO c t (ix2 r j) = resultOf m c R j := by
  obtain rfl : c = 0 := Subsingleton.elim _ _
  have hT : (tileOf R).val = (grid0.coords t 0).val := by
    show R.val / 512 = _
    have := r.isLt
    omega
  have hh := here_eq (grid0.coords t) (tileOf R) hT
  have hw := (hR (here (grid0.coords t))).1
  have he : (show BitVec 32 from tbl m 0 (here (grid0.coords t))).toNat = (expertOf (tbl m 0 (here (grid0.coords t)))).val :=
    (Nat.mod_eq_of_lt hw).symm
  have i1 := index1 m hO t
  have i2 := index2 m hO t
  have i3 := index3 m hO t
  have i4 := index4 m hO t
  rw [he] at i1 i2 i3 i4
  have e0 : (m (((0 : Dev nD).tc : Thread nD τ).loc main_arg1) : Vec Ideal S160 .i32) (ix1 (tileOf R)) = tbl m 0 (here (grid0.coords t)) := by
    rw [hh]; exact (congrFun (tbl0 m) _).symm
  have e1 : (m (((0 : Dev nD).tc : Thread nD τ).loc main_arg2) : Vec Ideal S160 .i32) (ix1 (tileOf R)) = tbl m 1 (here (grid0.coords t)) := by
    rw [hh]; exact (congrFun (tbl1 m) _).symm
  refine Eq.trans ?_ (entry_eq (te := fun t => (m (((0 : Dev nD).tc : Thread nD τ).loc main_arg1) : Vec Ideal S160 .i32) (ix1 t))
    (tv := fun t => (m (((0 : Dev nD).tc : Thread nD τ).loc main_arg2) : Vec Ideal S160 .i32) (ix1 t)) j e0 e1).symm
  unfold tile
  have hm := cond3_iff_of_nonneg _ (hR (here (grid0.coords t))).2
  by_cases p : 0 < (show BitVec 32 from tbl m 1 (here (grid0.coords t))).toInt
  · refine Eq.trans ?_ (if_pos p).symm
    refine (congrFun (if_neg (fun q => hm.mp q p)) _).trans ?_
    refine (pay3_apply _ _ _ _ _ r j).trans ?_
    simp only [x_apply m hO 0 t r _ R h, w_apply m hO 0 t _ _ _ i1, b_apply m hO 0 t _ _ i2, w'_apply m hO 0 t _ _ _ i3, b'_apply m hO 0 t _ _ i4]
  · refine Eq.trans ?_ (if_neg p).symm
    exact (congrFun (if_pos (hm.mpr p)) _).trans (pay4_apply r j)

/-- The layer's result as an array. -/
def resultArray (c : Dev nD) : Vec Ideal S81920x1024 .f32 := fun i => resultOf m c (i 0) (i 1)

/-- The result after the run is the layer's result. -/
theorem final (hR : InRange m) (hO : Ok m) (c : Dev nD) : (dats m hO 0 c).arrAt 5 (cfgM m hO).N = resultArray m c := by
  refine (dats m hO 0 c).arrAt_eq_of_covers 5 _ (covers5 m hO) (fun t _ y => ?_) (Memref.isWhole_whole _)
  rw [after0_5]
  have k0 : (((((cfgM m hO).win 5).blk t).view.emb y) (0 : Fin 2)).val = (grid0.coords t 0).val * 512 + (y (0 : Fin 2)).val := by
    blk_simp [index5 m hO t]
  have k1 : (((((cfgM m hO).win 5).blk t).view.emb y) (1 : Fin 2)).val = (y (1 : Fin 2)).val := by
    blk_simp [index5 m hO t]
  exact (congrArg (tile m hO c t) (ValueIdx.eq_ix2 y)).trans ((tile_apply m hR hO c t (y (0 : Fin 2)) (y (1 : Fin 2)) _ k0).trans
    (congrArg (resultOf m c _) (Fin.ext k1.symm)))

end Cert.Kernel2Ideal.Ex

end
-- ==== Proof.ExpertsRefRun.lean ====
/- What the experts' reference program computes, operation by operation: its operations in five groups, and the array each
   group leaves as a function of the arrays before it. -/
module

public import proofs.«01_k».proof.Proof.Gen.Reference2Ideal
public import Idealize.ShloMosaic.Lib.StableHlo.Run

@[expose] public section

noncomputable section

namespace Cert.Reference2Ideal.Ex

open Cert.Reference2Ideal Cert.Reference2Ideal.Gen Idealize.ShloMosaic Idealize.ShloMosaic.TcCoe Idealize.SL.Sem Idealize.ShloMosaic.StableHlo

variable {F : FTy → Type} [FloatOps F]

/-! ## The arrays -/

/-- Each row's expert: its tile's where the tile's mark is positive, minus one elsewhere. -/
def rowExpert (te tv : Vec F S160 .i32) : Vec F S81920 .i32 :=
  shapeCast S81920 (broadcastInDim S160x512 ![0, 1] bcast_S160x1_S160x512_0_1 (broadcastInDim S160x1 ![0] bcast_S160_S160x1_0
    (select (cmpi .sgt tv (broadcastInDim S160 ![] bcast_S_S160 (constantI S_ 32 0#32))) te
      (broadcastInDim S160 ![] bcast_S_S160 (constantI S_ 32 4294967295#32))))) shapeCasts_S160x512_S81920

/-- The gates: one at a row's expert, zero elsewhere. -/
def gates (te tv : Vec F S160 .i32) : Vec F S81920x32 .f32 :=
  uitofp (F := F) .f32 (cmpi .eq (broadcastInDim S81920x32 ![0, 1] bcast_S81920x1_S81920x32_0_1 (broadcastInDim S81920x1 ![0] bcast_S81920_S81920x1_0 (rowExpert (F := F) te tv)))
    (broadcastInDim S81920x32 ![0, 1] bcast_S1x32_S81920x32_0_1 (iotaInDim S1x32 32 1)))

/-- Every expert's hidden layer of every row. -/
def hidden (x : Vec F S81920x1024 .f32) (w : Vec F S32x1024x2048 .f32) (b : Vec F S32x2048 .f32) : Vec F S32x81920x2048 .f32 :=
  addf (F := F) (φ := .f32) (transpose S32x81920x2048 [0, 2, 1]
      (Host.dotGeneral (F := F) dot_S32x1024x2048_S81920x1024_S32x2048x81920_1_1_02_0_n_n none w x) transposes_S32x2048x81920_S32x81920x2048_0_2_1)
    (broadcastInDim S32x81920x2048 ![0, 1, 2] bcast_S32x1x2048_S32x81920x2048_0_1_2 (broadcastInDim S32x1x2048 ![0, 2] bcast_S32x2048_S32x1x2048_0_2 b))

/-- One number everywhere. -/
def all (w : BitVec 32) : Vec F S32x81920x1024 .f32 :=
  broadcastInDim S32x81920x1024 ![] bcast_S_S32x81920x1024 (constant (F := F) S_ .f32 w)

/-- The gate half of the hidden layer, cut off at seven. -/
def gateHalf (h : Vec F S32x81920x2048 .f32) : Vec F S32x81920x1024 .f32 :=
  minimumf (F := F) (φ := .f32) (extractStridedSlice S32x81920x1024 ![0, 0, 0] h slices_S32x81920x2048_S32x81920x1024_0_0_0) (all 0x40E00000#32)

/-- The other half, cut off at minus seven and at seven. -/
def upHalf (h : Vec F S32x81920x2048 .f32) : Vec F S32x81920x1024 .f32 :=
  minimumf (F := F) (φ := .f32) (all 0x40E00000#32) (maximumf (F := F) (φ := .f32) (all 0xC0E00000#32)
    (extractStridedSlice S32x81920x1024 ![0, 0, 1024] h slices_S32x81920x2048_S32x81920x1024_0_0_1024))

/-- The sigmoid of 1.702 times an array. -/
def sigm (g : Vec F S32x81920x1024 .f32) : Vec F S32x81920x1024 .f32 :=
  Host.divf (F := F) (φ := .f32) (all 0x3F800000#32) (addf (F := F) (φ := .f32) (all 0x3F800000#32)
    (Host.exp (F := F) (φ := .f32) (Host.negf (F := F) (φ := .f32) (mulf (F := F) (φ := .f32) (all 0x3FD9DB23#32) g))))

/-- The gated units. -/
def units (h : Vec F S32x81920x2048 .f32) : Vec F S32x81920x1024 .f32 :=
  mulf (F := F) (φ := .f32) (addf (F := F) (φ := .f32) (upHalf h) (all 0x3F800000#32)) (mulf (F := F) (φ := .f32) (gateHalf h) (sigm (gateHalf h)))

/-- Every expert's row. -/
def down (u : Vec F S32x81920x1024 .f32) (w : Vec F S32x1024x1024 .f32) (b : Vec F S32x1024 .f32) : Vec F S32x81920x1024 .f32 :=
  addf (F := F) (φ := .f32) (Host.dotGeneral (F := F) dot_S32x81920x1024_S32x1024x1024_S32x81920x1024_2_1_1_2_0_0 none u w)
    (broadcastInDim S32x81920x1024 ![0, 1, 2] bcast_S32x1x1024_S32x81920x1024_0_1_2 (broadcastInDim S32x1x1024 ![0, 2] bcast_S32x1024_S32x1x1024_0_2 b))

/-- The experts' rows added, each by its gate. -/
def gated (g : Vec F S81920x32 .f32) (y : Vec F S32x81920x1024 .f32) : Vec F S81920x1024 .f32 :=
  Host.reduceAdd (F := F) (mulf (F := F) (φ := .f32) (broadcastInDim S32x81920x1024 ![0, 1, 2] bcast_S32x81920x1_S32x81920x1024_0_1_2
      (broadcastInDim S32x81920x1 ![0, 1] bcast_S32x81920_S32x81920x1_0_1 (transpose S32x81920 [1, 0] g transposes_S81920x32_S32x81920_1_0))) y)
    (constant (F := F) S_ .f32 0x00000000#32) reducesTo_S32x81920x1024_S81920x1024_d0 h_S_

/-- The array the reference returns, of its arguments. -/
def result (x : Vec F S81920x1024 .f32) (te tv : Vec F S160 .i32) (w : Vec F S32x1024x2048 .f32) (b : Vec F S32x2048 .f32)
    (w' : Vec F S32x1024x1024 .f32) (b' : Vec F S32x1024 .f32) : Vec F S81920x1024 .f32 :=
  gated (gates te tv) (down (units (hidden x w b)) w' b')

/-! ## The operations -/

/-- The operations that make the rows' gates, of the tables. -/
abbrev opsGates : List (HloOp τ sig (Elt F)) :=
  [
    nullary main_c (constantI S_ 32 0#32),
    unary main_c main_v0 (broadcastInDim S160 ![] bcast_S_S160 : (⟨S_, .i32⟩ : BufTy).Contents (Elt F) → (⟨S160, .i32⟩ : BufTy).Contents (Elt F)),
    binary main_arg2 main_v0 main_v1 (cmpi .sgt : (⟨S160, .i32⟩ : BufTy).Contents (Elt F) → (⟨S160, .i32⟩ : BufTy).Contents (Elt F) → (⟨S160, .i1⟩ : BufTy).Contents (Elt F)),
    nullary main_c_0 (constantI S_ 32 4294967295#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S160, .i32⟩) main_call0_v1) (broadcastInDim S160 ![] bcast_S_S160),
    TRef.ternary (TRef.of (T := ⟨S160, .i1⟩) main_v1) (TRef.of (T := ⟨S160, .i32⟩) main_arg1) (TRef.of (T := ⟨S160, .i32⟩) main_call0_v1) (TRef.of (T := ⟨S160, .i32⟩) main_v2) select,
    unary main_v2 main_v3 (broadcastInDim S160x1 ![0] bcast_S160_S160x1_0 : (⟨S160, .i32⟩ : BufTy).Contents (Elt F) → (⟨S160x1, .i32⟩ : BufTy).Contents (Elt F)),
    unary main_v3 main_v4 (broadcastInDim S160x512 ![0, 1] bcast_S160x1_S160x512_0_1 : (⟨S160x1, .i32⟩ : BufTy).Contents (Elt F) → (⟨S160x512, .i32⟩ : BufTy).Contents (Elt F)),
    reshape main_v4 main_v5 (rfl : (.i32 : EltTy) = .i32) shapeCasts_S160x512_S81920,
    TRef.unary (TRef.of (T := ⟨S81920, .i32⟩) main_v5) (TRef.of (T := ⟨S81920x1, .i32⟩) main_call1_v0) (broadcastInDim S81920x1 ![0] bcast_S81920_S81920x1_0),
    TRef.nullary (TRef.of (T := ⟨S1x32, .i32⟩) main_call1_v1) (iotaInDim S1x32 32 1),
    TRef.unary (TRef.of (T := ⟨S81920x1, .i32⟩) main_call1_v0) (TRef.of (T := ⟨S81920x32, .i32⟩) main_call1_v2) (broadcastInDim S81920x32 ![0, 1] bcast_S81920x1_S81920x32_0_1),
    TRef.unary (TRef.of (T := ⟨S1x32, .i32⟩) main_call1_v1) (TRef.of (T := ⟨S81920x32, .i32⟩) main_call1_v3) (broadcastInDim S81920x32 ![0, 1] bcast_S1x32_S81920x32_0_1),
    TRef.binary (TRef.of (T := ⟨S81920x32, .i32⟩) main_call1_v2) (TRef.of (T := ⟨S81920x32, .i32⟩) main_call1_v3) (TRef.of (T := ⟨S81920x32, .i1⟩) main_call1_v4) (cmpi .eq),
    TRef.unary (TRef.of (T := ⟨S81920x32, .i1⟩) main_call1_v4) (TRef.of (T := ⟨S81920x32, .f32⟩) main_v6) (uitofp .f32) ]

/-- The buffers `opsGates` writes, in order. -/
abbrev opsGatesW : List (Ref sig .tc) := [main_c, main_v0, main_v1, main_c_0, main_call0_v0, main_call0_v1, main_v2, main_v3, main_v4, main_v5, main_call1_v0, main_call1_v1, main_call1_v2, main_call1_v3, main_call1_v4, main_v6]

theorem opsGates_keeps {r : Ref sig .tc} (V : Valuation τ sig (Elt F)) (hr : r ∉ opsGatesW) :
    after opsGates V (Proc.devRef .tc r) = V (Proc.devRef .tc r) :=
  after_of_writes_sub opsGates V (forall_writes_sub_of_map rfl) hr

set_option maxRecDepth 8192 in
theorem opsGates_sub : (opsGates (F := F)).Forall fun op => op.bufs ⊆ tcRefs τ sig :=
  ⟨nullary_bufs_sub .., unary_bufs_sub .., binary_bufs_sub .., nullary_bufs_sub .., unary_bufs_sub .., unary_bufs_sub .., ternary_bufs_sub .., unary_bufs_sub .., unary_bufs_sub .., reshape_bufs_sub .., unary_bufs_sub .., nullary_bufs_sub .., unary_bufs_sub .., unary_bufs_sub .., binary_bufs_sub .., unary_bufs_sub ..⟩

/-- The operations that make every expert's hidden layer of every row. -/
abbrev opsHidden : List (HloOp τ sig (Elt F)) :=
  [
    binary main_arg3 main_arg0 main_v7 ((fun l r => Host.dotGeneral dot_S32x1024x2048_S81920x1024_S32x2048x81920_1_1_02_0_n_n none l r) : (⟨S32x1024x2048, .f32⟩ : BufTy).Contents (Elt F) → (⟨S81920x1024, .f32⟩ : BufTy).Contents (Elt F) → (⟨S32x2048x81920, .f32⟩ : BufTy).Contents (Elt F)),
    unary main_v7 main_v8 ((transpose S32x81920x2048 [0, 2, 1] · transposes_S32x2048x81920_S32x81920x2048_0_2_1) : (⟨S32x2048x81920, .f32⟩ : BufTy).Contents (Elt F) → (⟨S32x81920x2048, .f32⟩ : BufTy).Contents (Elt F)),
    unary main_arg4 main_v9 (broadcastInDim S32x1x2048 ![0, 2] bcast_S32x2048_S32x1x2048_0_2 : (⟨S32x2048, .f32⟩ : BufTy).Contents (Elt F) → (⟨S32x1x2048, .f32⟩ : BufTy).Contents (Elt F)),
    unary main_v9 main_v10 (broadcastInDim S32x81920x2048 ![0, 1, 2] bcast_S32x1x2048_S32x81920x2048_0_1_2 : (⟨S32x1x2048, .f32⟩ : BufTy).Contents (Elt F) → (⟨S32x81920x2048, .f32⟩ : BufTy).Contents (Elt F)),
    binary main_v8 main_v10 main_v11 (addf : (⟨S32x81920x2048, .f32⟩ : BufTy).Contents (Elt F) → (⟨S32x81920x2048, .f32⟩ : BufTy).Contents (Elt F) → (⟨S32x81920x2048, .f32⟩ : BufTy).Contents (Elt F)) ]

/-- The buffers `opsHidden` writes, in order. -/
abbrev opsHiddenW : List (Ref sig .tc) := [main_v7, main_v8, main_v9, main_v10, main_v11]

theorem opsHidden_keeps {r : Ref sig .tc} (V : Valuation τ sig (Elt F)) (hr : r ∉ opsHiddenW) :
    after opsHidden V (Proc.devRef .tc r) = V (Proc.devRef .tc r) :=
  after_of_writes_sub opsHidden V (forall_writes_sub_of_map rfl) hr

set_option maxRecDepth 8192 in
theorem opsHidden_sub : (opsHidden (F := F)).Forall fun op => op.bufs ⊆ tcRefs τ sig :=
  ⟨binary_bufs_sub .., unary_bufs_sub .., unary_bufs_sub .., unary_bufs_sub .., binary_bufs_sub ..⟩

/-- The operations that make the gated units of the hidden layers. -/
abbrev opsAct : List (HloOp τ sig (Elt F)) :=
  [
    unary main_v11 main_v12 ((extractStridedSlice S32x81920x1024 ![0, 0, 0] · slices_S32x81920x2048_S32x81920x1024_0_0_0) : (⟨S32x81920x2048, .f32⟩ : BufTy).Contents (Elt F) → (⟨S32x81920x1024, .f32⟩ : BufTy).Contents (Elt F)),
    nullary main_cst (constant S_ .f32 0x40E00000#32),
    unary main_cst main_v13 (broadcastInDim S32x81920x1024 ![] bcast_S_S32x81920x1024 : (⟨S_, .f32⟩ : BufTy).Contents (Elt F) → (⟨S32x81920x1024, .f32⟩ : BufTy).Contents (Elt F)),
    binary main_v12 main_v13 main_v14 (minimumf : (⟨S32x81920x1024, .f32⟩ : BufTy).Contents (Elt F) → (⟨S32x81920x1024, .f32⟩ : BufTy).Contents (Elt F) → (⟨S32x81920x1024, .f32⟩ : BufTy).Contents (Elt F)),
    unary main_v11 main_v15 ((extractStridedSlice S32x81920x1024 ![0, 0, 1024] · slices_S32x81920x2048_S32x81920x1024_0_0_1024) : (⟨S32x81920x2048, .f32⟩ : BufTy).Contents (Elt F) → (⟨S32x81920x1024, .f32⟩ : BufTy).Contents (Elt F)),
    nullary main_cst_1 (constant S_ .f32 0xC0E00000#32),
    nullary main_cst_2 (constant S_ .f32 0x40E00000#32),
    TRef.unary (TRef.of (T := ⟨S_, .f32⟩) main_cst_1) (TRef.of (T := ⟨S_, .f32⟩) main_call2_v0) id,
    TRef.unary (TRef.of (T := ⟨S_, .f32⟩) main_call2_v0) (TRef.of (T := ⟨S32x81920x1024, .f32⟩) main_call2_v1) (broadcastInDim S32x81920x1024 ![] bcast_S_S32x81920x1024),
    TRef.binary (TRef.of (T := ⟨S32x81920x1024, .f32⟩) main_call2_v1) (TRef.of (T := ⟨S32x81920x1024, .f32⟩) main_v15) (TRef.of (T := ⟨S32x81920x1024, .f32⟩) main_call2_v2) maximumf,
    TRef.unary (TRef.of (T := ⟨S_, .f32⟩) main_cst_2) (TRef.of (T := ⟨S_, .f32⟩) main_call2_v3) id,
    TRef.unary (TRef.of (T := ⟨S_, .f32⟩) main_call2_v3) (TRef.of (T := ⟨S32x81920x1024, .f32⟩) main_call2_v4) (broadcastInDim S32x81920x1024 ![] bcast_S_S32x81920x1024),
    TRef.binary (TRef.of (T := ⟨S32x81920x1024, .f32⟩) main_call2_v4) (TRef.of (T := ⟨S32x81920x1024, .f32⟩) main_call2_v2) (TRef.of (T := ⟨S32x81920x1024, .f32⟩) main_v16) minimumf,
    nullary main_cst_3 (constant S_ .f32 0x3F800000#32),
    unary main_cst_3 main_v17 (broadcastInDim S32x81920x1024 ![] bcast_S_S32x81920x1024 : (⟨S_, .f32⟩ : BufTy).Contents (Elt F) → (⟨S32x81920x1024, .f32⟩ : BufTy).Contents (Elt F)),
    binary main_v16 main_v17 main_v18 (addf : (⟨S32x81920x1024, .f32⟩ : BufTy).Contents (Elt F) → (⟨S32x81920x1024, .f32⟩ : BufTy).Contents (Elt F) → (⟨S32x81920x1024, .f32⟩ : BufTy).Contents (Elt F)),
    nullary main_cst_4 (constant S_ .f32 0x3FD9DB23#32),
    unary main_cst_4 main_v19 (broadcastInDim S32x81920x1024 ![] bcast_S_S32x81920x1024 : (⟨S_, .f32⟩ : BufTy).Contents (Elt F) → (⟨S32x81920x1024, .f32⟩ : BufTy).Contents (Elt F)),
    binary main_v19 main_v14 main_v20 (mulf : (⟨S32x81920x1024, .f32⟩ : BufTy).Contents (Elt F) → (⟨S32x81920x1024, .f32⟩ : BufTy).Contents (Elt F) → (⟨S32x81920x1024, .f32⟩ : BufTy).Contents (Elt F)),
    unary main_v20 main_v21 (Host.negf : (⟨S32x81920x1024, .f32⟩ : BufTy).Contents (Elt F) → (⟨S32x81920x1024, .f32⟩ : BufTy).Contents (Elt F)),
    unary main_v21 main_v22 (Host.exp : (⟨S32x81920x1024, .f32⟩ : BufTy).Contents (Elt F) → (⟨S32x81920x1024, .f32⟩ : BufTy).Contents (Elt F)),
    nullary main_cst_5 (constant S_ .f32 0x3F800000#32),
    unary main_cst_5 main_v23 (broadcastInDim S32x81920x1024 ![] bcast_S_S32x81920x1024 : (⟨S_, .f32⟩ : BufTy).Contents (Elt F) → (⟨S32x81920x1024, .f32⟩ : BufTy).Contents (Elt F)),
    binary main_v23 main_v22 main_v24 (addf : (⟨S32x81920x1024, .f32⟩ : BufTy).Contents (Elt F) → (⟨S32x81920x1024, .f32⟩ : BufTy).Contents (Elt F) → (⟨S32x81920x1024, .f32⟩ : BufTy).Contents (Elt F)),
    nullary main_cst_6 (constant S_ .f32 0x3F800000#32),
    unary main_cst_6 main_v25 (broadcastInDim S32x81920x1024 ![] bcast_S_S32x81920x1024 : (⟨S_, .f32⟩ : BufTy).Contents (Elt F) → (⟨S32x81920x1024, .f32⟩ : BufTy).Contents (Elt F)),
    binary main_v25 main_v24 main_v26 (Host.divf : (⟨S32x81920x1024, .f32⟩ : BufTy).Contents (Elt F) → (⟨S32x81920x1024, .f32⟩ : BufTy).Contents (Elt F) → (⟨S32x81920x1024, .f32⟩ : BufTy).Contents (Elt F)),
    binary main_v14 main_v26 main_v27 (mulf : (⟨S32x81920x1024, .f32⟩ : BufTy).Contents (Elt F) → (⟨S32x81920x1024, .f32⟩ : BufTy).Contents (Elt F) → (⟨S32x81920x1024, .f32⟩ : BufTy).Contents (Elt F)),
    binary main_v18 main_v27 main_v28 (mulf : (⟨S32x81920x1024, .f32⟩ : BufTy).Contents (Elt F) → (⟨S32x81920x1024, .f32⟩ : BufTy).Contents (Elt F) → (⟨S32x81920x1024, .f32⟩ : BufTy).Contents (Elt F)) ]

/-- The buffers `opsAct` writes, in order. -/
abbrev opsActW : List (Ref sig .tc) := [main_v12, main_cst, main_v13, main_v14, main_v15, main_cst_1, main_cst_2, main_call2_v0, main_call2_v1, main_call2_v2, main_call2_v3, main_call2_v4, main_v16, main_cst_3, main_v17, main_v18, main_cst_4, main_v19, main_v20, main_v21, main_v22, main_cst_5, main_v23, main_v24, main_cst_6, main_v25, main_v26, main_v27, main_v28]

theorem opsAct_keeps {r : Ref sig .tc} (V : Valuation τ sig (Elt F)) (hr : r ∉ opsActW) :
    after opsAct V (Proc.devRef .tc r) = V (Proc.devRef .tc r) :=
  after_of_writes_sub opsAct V (forall_writes_sub_of_map rfl) hr

set_option maxRecDepth 8192 in
theorem opsAct_sub : (opsAct (F := F)).Forall fun op => op.bufs ⊆ tcRefs τ sig :=
  ⟨unary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

/-- The operations that bring the units back to the row's width, expert by expert. -/
abbrev opsDown : List (HloOp τ sig (Elt F)) :=
  [
    binary main_v28 main_arg5 main_v29 ((fun l r => Host.dotGeneral dot_S32x81920x1024_S32x1024x1024_S32x81920x1024_2_1_1_2_0_0 none l r) : (⟨S32x81920x1024, .f32⟩ : BufTy).Contents (Elt F) → (⟨S32x1024x1024, .f32⟩ : BufTy).Contents (Elt F) → (⟨S32x81920x1024, .f32⟩ : BufTy).Contents (Elt F)),
    unary main_arg6 main_v30 (broadcastInDim S32x1x1024 ![0, 2] bcast_S32x1024_S32x1x1024_0_2 : (⟨S32x1024, .f32⟩ : BufTy).Contents (Elt F) → (⟨S32x1x1024, .f32⟩ : BufTy).Contents (Elt F)),
    unary main_v30 main_v31 (broadcastInDim S32x81920x1024 ![0, 1, 2] bcast_S32x1x1024_S32x81920x1024_0_1_2 : (⟨S32x1x1024, .f32⟩ : BufTy).Contents (Elt F) → (⟨S32x81920x1024, .f32⟩ : BufTy).Contents (Elt F)),
    binary main_v29 main_v31 main_v32 (addf : (⟨S32x81920x1024, .f32⟩ : BufTy).Contents (Elt F) → (⟨S32x81920x1024, .f32⟩ : BufTy).Contents (Elt F) → (⟨S32x81920x1024, .f32⟩ : BufTy).Contents (Elt F)) ]

/-- The buffers `opsDown` writes, in order. -/
abbrev opsDownW : List (Ref sig .tc) := [main_v29, main_v30, main_v31, main_v32]

theorem opsDown_keeps {r : Ref sig .tc} (V : Valuation τ sig (Elt F)) (hr : r ∉ opsDownW) :
    after opsDown V (Proc.devRef .tc r) = V (Proc.devRef .tc r) :=
  after_of_writes_sub opsDown V (forall_writes_sub_of_map rfl) hr

set_option maxRecDepth 8192 in
theorem opsDown_sub : (opsDown (F := F)).Forall fun op => op.bufs ⊆ tcRefs τ sig :=
  ⟨binary_bufs_sub .., unary_bufs_sub .., unary_bufs_sub .., binary_bufs_sub ..⟩

/-- The operations that add the experts' rows, each by its gate. -/
abbrev opsSum : List (HloOp τ sig (Elt F)) :=
  [
    unary main_v6 main_v33 ((transpose S32x81920 [1, 0] · transposes_S81920x32_S32x81920_1_0) : (⟨S81920x32, .f32⟩ : BufTy).Contents (Elt F) → (⟨S32x81920, .f32⟩ : BufTy).Contents (Elt F)),
    unary main_v33 main_v34 (broadcastInDim S32x81920x1 ![0, 1] bcast_S32x81920_S32x81920x1_0_1 : (⟨S32x81920, .f32⟩ : BufTy).Contents (Elt F) → (⟨S32x81920x1, .f32⟩ : BufTy).Contents (Elt F)),
    unary main_v34 main_v35 (broadcastInDim S32x81920x1024 ![0, 1, 2] bcast_S32x81920x1_S32x81920x1024_0_1_2 : (⟨S32x81920x1, .f32⟩ : BufTy).Contents (Elt F) → (⟨S32x81920x1024, .f32⟩ : BufTy).Contents (Elt F)),
    binary main_v35 main_v32 main_v36 (mulf : (⟨S32x81920x1024, .f32⟩ : BufTy).Contents (Elt F) → (⟨S32x81920x1024, .f32⟩ : BufTy).Contents (Elt F) → (⟨S32x81920x1024, .f32⟩ : BufTy).Contents (Elt F)),
    nullary main_cst_7 (constant S_ .f32 0x00000000#32),
    binary main_v36 main_cst_7 main_v37 ((fun x v => Host.reduceAdd x v reducesTo_S32x81920x1024_S81920x1024_d0 h_S_) : (⟨S32x81920x1024, .f32⟩ : BufTy).Contents (Elt F) → (⟨S_, .f32⟩ : BufTy).Contents (Elt F) → (⟨S81920x1024, .f32⟩ : BufTy).Contents (Elt F)) ]

/-- The buffers `opsSum` writes, in order. -/
abbrev opsSumW : List (Ref sig .tc) := [main_v33, main_v34, main_v35, main_v36, main_cst_7, main_v37]

theorem opsSum_keeps {r : Ref sig .tc} (V : Valuation τ sig (Elt F)) (hr : r ∉ opsSumW) :
    after opsSum V (Proc.devRef .tc r) = V (Proc.devRef .tc r) :=
  after_of_writes_sub opsSum V (forall_writes_sub_of_map rfl) hr

set_option maxRecDepth 8192 in
theorem opsSum_sub : (opsSum (F := F)).Forall fun op => op.bufs ⊆ tcRefs τ sig :=
  ⟨unary_bufs_sub .., unary_bufs_sub .., unary_bufs_sub .., binary_bufs_sub .., nullary_bufs_sub .., binary_bufs_sub ..⟩

/-! ## What each group leaves -/

theorem gates_at (V : Valuation τ sig (Elt F)) : after opsGates V (Proc.devRef .tc main_v6)
    = gates (V (Proc.devRef .tc main_arg1)) (V (Proc.devRef .tc main_arg2)) := by
  simp only [opsGates, TRef.binary, TRef.nullary, TRef.ternary, TRef.unary, TRef.toBuf, TRef.ofBuf, cast_eq]
  after_results_simp <;> rfl

theorem hidden_at (V : Valuation τ sig (Elt F)) : after opsHidden V (Proc.devRef .tc main_v11)
    = hidden (V (Proc.devRef .tc main_arg0)) (V (Proc.devRef .tc main_arg3)) (V (Proc.devRef .tc main_arg4)) := by
  after_results_simp <;> rfl

theorem units_at (V : Valuation τ sig (Elt F)) : after opsAct V (Proc.devRef .tc main_v28) = units (V (Proc.devRef .tc main_v11)) := by
  simp only [opsAct, TRef.binary, TRef.nullary, TRef.ternary, TRef.unary, TRef.toBuf, TRef.ofBuf, cast_eq]
  after_results_simp <;> rfl

theorem down_at (V : Valuation τ sig (Elt F)) : after opsDown V (Proc.devRef .tc main_v32)
    = down (V (Proc.devRef .tc main_v28)) (V (Proc.devRef .tc main_arg5)) (V (Proc.devRef .tc main_arg6)) := by
  after_results_simp <;> rfl

theorem gated_at (V : Valuation τ sig (Elt F)) : after opsSum V (Proc.devRef .tc main_v37)
    = gated (V (Proc.devRef .tc main_v6)) (V (Proc.devRef .tc main_v32)) := by
  after_results_simp <;> rfl

/-! ## The run -/

/-- All the operations, group after group. -/
abbrev opsAll : List (HloOp τ sig (Elt F)) := opsGates ++ (opsHidden ++ (opsAct ++ (opsDown ++ opsSum)))

theorem after_append (a b : List (HloOp τ sig (Elt F))) (V : Valuation τ sig (Elt F)) :
    after (a ++ b) V = after b (after a V) := by
  induction a generalizing V with
  | nil => rfl
  | cons op a ih => exact ih _

theorem forall_append {p : HloOp τ sig (Elt F) → Prop} {a b : List (HloOp τ sig (Elt F))} (ha : a.Forall p) (hb : b.Forall p) :
    (a ++ b).Forall p := by
  rw [List.forall_iff_forall_mem] at *
  intro x hx
  rcases List.mem_append.mp hx with h | h
  exacts [ha x h, hb x h]

set_option maxRecDepth 8192 in
set_option maxHeartbeats 4000000 in
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll (F := F)).Forall fun op => op.bufs ⊆ tcRefs τ sig :=
  forall_append opsGates_sub <| forall_append opsHidden_sub <| forall_append opsAct_sub <| forall_append opsDown_sub opsSum_sub

/-- The operations leave `result` of the arguments in the returned buffer. -/
theorem result_at (V : Valuation τ sig (Elt F)) :
    after opsAll V (Proc.devRef .tc main_v37) = result (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6)) := by
  simp only [opsAll, after_append]
  rw [gated_at, down_at, opsDown_keeps (r := main_v6) _ (by decide),
    units_at, opsAct_keeps (r := main_v6) _ (by decide), opsAct_keeps (r := main_arg5) _ (by decide), opsAct_keeps (r := main_arg6) _ (by decide),
    hidden_at, opsHidden_keeps (r := main_v6) _ (by decide), opsHidden_keeps (r := main_arg5) _ (by decide), opsHidden_keeps (r := main_arg6) _ (by decide),
    gates_at, opsGates_keeps (r := main_arg0) _ (by decide), opsGates_keeps (r := main_arg3) _ (by decide), opsGates_keeps (r := main_arg4) _ (by decide),
    opsGates_keeps (r := main_arg5) _ (by decide), opsGates_keeps (r := main_arg6) _ (by decide)]
  rfl

/-- The operations leave a buffer none of them writes. -/
theorem kept_at (V : Valuation τ sig (Elt F)) {r : Ref sig .tc} (h1 : r ∉ opsGatesW) (h2 : r ∉ opsHiddenW) (h3 : r ∉ opsActW) (h4 : r ∉ opsDownW)
    (h5 : r ∉ opsSumW) : after opsAll V (Proc.devRef .tc r) = V (Proc.devRef .tc r) := by
  simp only [opsAll, after_append]
  rw [opsSum_keeps _ h5, opsDown_keeps _ h4, opsAct_keeps _ h3, opsHidden_keeps _ h2, opsGates_keeps _ h1]

/-- Every run of the reference ends with `result` of its arguments in the returned buffer, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v37).trans (result_at _),
      (h c main_arg0).trans (kept_at _ (by decide) (by decide) (by decide) (by decide) (by decide)),
      (h c main_arg1).trans (kept_at _ (by decide) (by decide) (by decide) (by decide) (by decide)),
      (h c main_arg2).trans (kept_at _ (by decide) (by decide) (by decide) (by decide) (by decide)),
      (h c main_arg3).trans (kept_at _ (by decide) (by decide) (by decide) (by decide) (by decide)),
      (h c main_arg4).trans (kept_at _ (by decide) (by decide) (by decide) (by decide) (by decide)),
      (h c main_arg5).trans (kept_at _ (by decide) (by decide) (by decide) (by decide) (by decide)),
      (h c main_arg6).trans (kept_at _ (by decide) (by decide) (by decide) (by decide) (by decide))⟩)
    (run_seq scopedRefs_eq scopedSems_eq defs main (fun _ => opsAll) main_eq (fun _ => opsAll_sub) m ρ)

end Cert.Reference2Ideal.Ex

end
-- ==== Proof.ExpertsRef.lean ====
/- What the experts' reference holds, entry by entry: its result is the layer of each row's expert. -/
module

public import proofs.«01_k».proof.Proof.ExpertsRefRun
public import proofs.«01_k».proof.Proof.ExpertLayer
public import Idealize.ShloMosaic.Lib.Pointwise
public import Idealize.ShloMosaic.Lib.WordCmp

@[expose] public section

set_option maxRecDepth 16384

noncomputable section

namespace Cert.Reference2Ideal.Ex

open Cert.Reference2Ideal Cert.Reference2Ideal.Gen Idealize.ShloMosaic Idealize.ShloMosaic.TcCoe Cert.ExpertLayer

theorem hidden_apply (x : Vec Ideal S81920x1024 .f32) (w : Vec Ideal S32x1024x2048 .f32) (b : Vec Ideal S32x2048 .f32) (e : Fin 32) (r : Fin 81920)
    (f : Fin 2048) : hidden x w b (ix3 e r f) = hid (fun d => x (ix2 r d)) (fun d f => w (ix3 e d f)) (fun f => b (ix2 e f)) f := by
  pointwise [hidden]
  unfold hid
  exact congrArg (fun s : EReal => s + (show EReal from b (ix2 e f))) (Finset.sum_congr rfl fun d _ => mul_comm _ _)

theorem units_apply (h : Vec Ideal S32x81920x2048 .f32) (e : Fin 32) (r : Fin 81920) (f : Fin 1024) :
    units h (ix3 e r f) = unit (fun f => h (ix3 e r f)) f := by
  pointwise [units, upHalf, gateHalf, sigm, all]
  rfl

theorem down_apply (u : Vec Ideal S32x81920x1024 .f32) (w : Vec Ideal S32x1024x1024 .f32) (b : Vec Ideal S32x1024 .f32) (e : Fin 32) (r : Fin 81920)
    (j : Fin 1024) : down u w b (ix3 e r j) = (∑ f : Fin 1024, u (ix3 e r f) * w (ix3 e f j)) + b (ix2 e j) := by
  pointwise [down]

theorem gated_apply (g : Vec Ideal S81920x32 .f32) (y : Vec Ideal S32x81920x1024 .f32) (r : Fin 81920) (j : Fin 1024) :
    gated g y (ix2 r j) = ∑ e : Fin 32, g (ix2 r e) * y (ix3 e r j) := by
  pointwise [gated]

/-- A gate is one where the row's tile is marked and names the expert, zero elsewhere. -/
theorem gates_apply (te tv : Vec Ideal S160 .i32) (r : Fin 81920) (e : Fin 32) :
    gates te tv (ix2 r e) = (if 0 < (show BitVec 32 from tv (ix1 (tileOf r))).toInt ∧ (show BitVec 32 from te (ix1 (tileOf r))) = BitVec.ofNat 32 e.val then (1 : EReal) else 0) := by
  pointwise [gates, rowExpert]
  have key : ∀ (a b : BitVec 32), (FloatOps.uitofp (F := Ideal) FTy.f32 (IntOp.cmpi CmpIPredicate.eq
        (Scalar.select (IntOp.cmpi CmpIPredicate.sgt a 0#32) b 4294967295#32) (BitVec.ofNat 32 e.val)) : EReal)
      = if 0 < a.toInt ∧ b = BitVec.ofNat 32 e.val then 1 else 0 := by
    intro a b
    have hm : (4294967295#32 : BitVec 32) ≠ BitVec.ofNat 32 e.val := by
      revert e; decide
    have hs : (Scalar.select (IntOp.cmpi CmpIPredicate.sgt a 0#32) b 4294967295#32 : BitVec 32) = if 0 < a.toInt then b else 4294967295#32 := by
      rw [WordCmp.cmpi_sgt_eq]
      by_cases h : 0 < a.toInt
      · simp [h, Scalar.select]
      · simp [h, Scalar.select]
    rw [hs, WordCmp.cmpi_eq_eq]
    show ((BitVec.toNat _ : ℝ) : EReal) = _
    by_cases h : 0 < a.toInt
    · by_cases h' : b = BitVec.ofNat 32 e.val
      · simp [h, h']
      · simp [h, h']
    · simp [h, hm]
  exact key _ _

/-- The reference's result, under the tables' range. -/
theorem result_apply (x : Vec Ideal S81920x1024 .f32) (te tv : Vec Ideal S160 .i32) (w : Vec Ideal S32x1024x2048 .f32) (b : Vec Ideal S32x2048 .f32)
    (w' : Vec Ideal S32x1024x1024 .f32) (b' : Vec Ideal S32x1024 .f32) (ht : ∀ t : Fin 160, (show BitVec 32 from te (ix1 t)).toNat < 32) (r : Fin 81920) (j : Fin 1024) :
    result x te tv w b w' b' (ix2 r j) = entry (fun r d => x (ix2 r d)) (fun t => te (ix1 t)) (fun t => tv (ix1 t)) (fun e d f => w (ix3 e d f))
      (fun e f => b (ix2 e f)) (fun e f j => w' (ix3 e f j)) (fun e j => b' (ix2 e j)) r j := by
  unfold result
  rw [gated_apply]
  have hy : ∀ e : Fin 32, down (units (hidden x w b)) w' b' (ix3 e r j)
      = layer (fun d => x (ix2 r d)) (fun d f => w (ix3 e d f)) (fun f => b (ix2 e f)) (fun f j => w' (ix3 e f j)) (fun j => b' (ix2 e j)) j := by
    intro e
    rw [down_apply]
    unfold layer
    refine congrArg (fun s : EReal => s + (show EReal from b' (ix2 e j))) (Finset.sum_congr rfl fun f _ => ?_)
    rw [units_apply]
    simp only [hidden_apply]
  refine (Finset.sum_congr rfl fun e _ => congrArg₂ (fun p q : EReal => p * q) (gates_apply te tv r e) (hy e)).trans ?_
  exact sum_gates _ _ (ht _) _

end Cert.Reference2Ideal.Ex

end
-- ==== Proof.Projection.lean ====
/- The combined projection, in mathematics: rows normalized by their root mean square, scaled by a gain, multiplied by a matrix whose
   columns are kept in slabs of 512. -/
module

public import Idealize.ShloMosaic.Lib.Pointwise

@[expose] public section

noncomputable section

namespace Cert.Projection

open Idealize.ShloMosaic

/-- The inverse of a row's root mean square, the mean moved off zero. -/
def scale (x : Fin 1024 → EReal) : EReal :=
  Ideal.rsqrt (Ideal.div (∑ d : Fin 1024, x d * x d) (Ideal.ofBits .f32 0x44800000#32) + Ideal.ofBits .f32 0x358637BD#32)

/-- A row normalized and scaled by the gain. -/
def normed (x g : Fin 1024 → EReal) (d : Fin 1024) : EReal := x d * scale x * g d

/-- A normalized row's product with one column. -/
def proj (x g w : Fin 1024 → EReal) : EReal := ∑ d : Fin 1024, normed x g d * w d

/-- The matrix's column that is column `l` of slab `a`. -/
def column (a : Fin 10) (l : Fin 512) : Fin 5120 := ⟨a.val * 512 + l.val, by omega⟩

end Cert.Projection

end
-- ==== Proof.ProjectionBlock.lean ====
/- What the projection's kernel leaves: in each of ten slabs, the products of the normalized rows with 512 of the matrix's columns. -/
module

public import proofs.«01_k».proof.Proof.Projection
public import proofs.«01_k».proof.Proof.Gen.Kernel3Ideal.Value
public import Idealize.ShloMosaic.Lib.Pipeline.ValueKit
public import Idealize.ShloMosaic.Lib.Pipeline.Covers

@[expose] public section

set_option maxRecDepth 16384

noncomputable section

namespace Cert.Kernel3Ideal.Pj

open Cert.Kernel3Ideal Cert.Kernel3Ideal.Gen Idealize.ShloMosaic Idealize.ShloMosaic.TcCoe Cert.Projection

variable (m : (ℓ : Loc nD τ sig) → Buf (Elt Ideal) ℓ)

/-- A block's rows normalized. -/
theorem pay5_apply (x0 : Vec Ideal S512x1024 .f32) (x1 : Vec Ideal S1x1024 .f32) (r : Fin 512) (d : Fin 1024) :
    k0_pay5 x0 x1 (ix2 r d) = normed (fun d => x0 (ix2 r d)) (fun d => x1 (ix2 0 d)) d := by
  pointwise [k0_pay5]
  rfl

/-- The block of each window at each grid point. -/
theorem idx : ∀ t : Fin cfg0.N, win0_0.index t = ![t.val, 0] ∧ win0_1.index t = ![0, 0] ∧ win0_2.index t = ![0, 0] ∧ win0_3.index t = ![0, t.val, 0] :=
  (by decide +kernel : ∀ t : Fin grid0.N, _)

theorem covers3 : (cfg0.win 3).Covers := by decide +kernel

/-- The rows' block at an entry. -/
theorem x_apply (c : Dev nD) (t : Fin cfg0.N) (r : Fin 512) (d : Fin 1024) (R : Fin 16384) (hR : R.val = t.val * 512 + r.val) :
    (iblk m c 0 t : Vec Ideal S512x1024 .f32) (ix2 r d) = (m ((c.tc : Thread nD τ).loc main_arg0) : Vec Ideal S16384x1024 .f32) (ix2 R d) := by
  blk_ext [iblk, V, idx t]

/-- The gain and the matrix as the kernel is passed them, at an entry. -/
theorem V_v0_apply (c : Dev nD) (d : Fin 1024) (l : Fin 5120) :
    (V m c main_v0 : Vec Ideal S1024x5120 .bf16) (ix2 d l) = (m ((c.tc : Thread nD τ).loc main_arg2) : Vec Ideal S1024x5120 .f32) (ix2 d l) := by
  unfold V
  entry_read
  pointwise
theorem V_v1_apply (c : Dev nD) (d : Fin 1024) :
    (V m c main_v1 : Vec Ideal S1x1024 .f32) (ix2 0 d) = (m ((c.tc : Thread nD τ).loc main_arg1) : Vec Ideal S1024 .f32) (ix1 d) := by
  unfold V
  entry_read
  pointwise

/-- The gain's and the matrix's blocks read from any contents: the whole array. -/
theorem read1 (t : Fin cfg0.N) (X : Vec Ideal S1x1024 .f32) (d : Fin 1024) :
    (((cfg0.win 1).blk t).view.read (Elt Ideal) X : Vec Ideal S1x1024 .f32) (ix2 0 d) = X (ix2 0 d) := by
  blk_ext [idx t]
theorem read2 (t : Fin cfg0.N) (X : Vec Ideal S1024x5120 .bf16) (d : Fin 1024) (l : Fin 5120) :
    (((cfg0.win 2).blk t).view.read (Elt Ideal) X : Vec Ideal S1024x5120 .bf16) (ix2 d l) = X (ix2 d l) := by
  blk_ext [idx t]

/-- The gain's block at an entry. -/
theorem g_apply (c : Dev nD) (t : Fin cfg0.N) (d : Fin 1024) :
    (iblk m c 1 t : Vec Ideal S1x1024 .f32) (ix2 0 d) = (m ((c.tc : Thread nD τ).loc main_arg1) : Vec Ideal S1024 .f32) (ix1 d) :=
  (read1 t (V m c main_v1) d).trans (V_v1_apply m c d)
/-- The matrix's block at an entry. -/
theorem w_apply (c : Dev nD) (t : Fin cfg0.N) (d : Fin 1024) (l : Fin 5120) :
    (iblk m c 2 t : Vec Ideal S1024x5120 .bf16) (ix2 d l) = (m ((c.tc : Thread nD τ).loc main_arg2) : Vec Ideal S1024x5120 .f32) (ix2 d l) :=
  (read2 t (V m c main_v0) d l).trans (V_v0_apply m c d l)

theorem hz2 : (![0, 0] : Fin 2 → Nat) = fun _ => 0 := funext fun a => by fin_cases a <;> rfl

/-- The slabs that a point leaves of its blocks: a row's product with the slab's column. -/
theorem out_apply (x0 : Vec Ideal S512x1024 .f32) (x1 : Vec Ideal S1x1024 .f32) (x2 : Vec Ideal S1024x5120 .bf16) (y : S10x512x512.Idx) (L : Fin 5120)
    (hL : L.val = (y 0).val * 512 + (y 2).val) :
    out0_3 x0 x1 x2 y = proj (fun d => x0 (ix2 (y 1) d)) (fun d => x1 (ix2 0 d)) (fun d => x2 (ix2 d L)) := by
  unfold out0_3 k0_pay14 proj
  rw [View.ld_unit_zero (S := S512x1024) hz2, View.ld_unit_zero (S := S1x1024) hz2]
  canon_tiles x h
  all_goals
    pointwise [k0_pay4, k0_pay3, k0_pay2, k0_pay1, k0_pay13, k0_pay12, k0_pay11, k0_pay10, k0_pay9, k0_pay8, k0_pay7, k0_pay6]
    refine Finset.sum_congr rfl fun d _ => ?_
    refine congrArg₂ (fun u v : EReal => u * v) ((pay5_apply x0 x1 (x 1) d).trans ?_) ?_
    · rw [show (x 1 : Fin 512) = y 1 from Fin.ext h1.symm]
    · refine congrArg (fun l => x2 (ix2 d l)) (Fin.ext ?_)
      simp only [hL]
      omega

/-- The projection of the arguments, its columns in slabs. -/
def resultOf (c : Dev nD) (a : Fin 10) (r : Fin 16384) (l : Fin 512) : EReal :=
  proj (fun d => (m ((c.tc : Thread nD τ).loc main_arg0) : Vec Ideal S16384x1024 .f32) (ix2 r d))
    (fun d => (m ((c.tc : Thread nD τ).loc main_arg1) : Vec Ideal S1024 .f32) (ix1 d))
    (fun d => (m ((c.tc : Thread nD τ).loc main_arg2) : Vec Ideal S1024x5120 .f32) (ix2 d (column a l)))

/-- What a point leaves at an entry is the projection there. -/
theorem block_apply (c : Dev nD) (t : Fin cfg0.N) (y : S10x512x512.Idx) (a : Fin 10) (R : Fin 16384) (l : Fin 512)
    (ha : a.val = (y 0).val) (hR : R.val = t.val * 512 + (y 1).val) (hl : l.val = (y 2).val) :
    out0_3 (iblk m c 0 t) (iblk m c 1 t) (iblk m c 2 t) y = resultOf m c a R l := by
  refine (out_apply _ _ _ y (column a l) (by show a.val * 512 + l.val = _; rw [ha, hl])).trans ?_
  have e0 : (fun d => (iblk m c 0 t : Vec Ideal S512x1024 .f32) (ix2 (y 1) d))
      = fun d => (m ((c.tc : Thread nD τ).loc main_arg0) : Vec Ideal S16384x1024 .f32) (ix2 R d) := funext fun d => x_apply m c t (y 1) d R hR
  have e1 : (fun d => (iblk m c 1 t : Vec Ideal S1x1024 .f32) (ix2 0 d))
      = fun d => (m ((c.tc : Thread nD τ).loc main_arg1) : Vec Ideal S1024 .f32) (ix1 d) := funext fun d => g_apply m c t d
  have e2 : (fun d => (iblk m c 2 t : Vec Ideal S1024x5120 .bf16) (ix2 d (column a l)))
      = fun d => (m ((c.tc : Thread nD τ).loc main_arg2) : Vec Ideal S1024x5120 .f32) (ix2 d (column a l)) := funext fun d => w_apply m c t d _
  unfold resultOf
  exact congr (congrArg₂ proj e0 e1) e2

/-- The projection as an array. -/
def resultArray (c : Dev nD) : Vec Ideal S10x16384x512 .bf16 := fun i => resultOf m c (i 0) (i 1) (i 2)

/-- The result after the run is the projection of the arguments. -/
theorem final (c : Dev nD) : (dats m 0 c).arrAt 3 cfg0.N = resultArray m c := by
  refine (dats m 0 c).arrAt_eq_of_covers 3 _ covers3 (fun t _ y => ?_) (Memref.isWhole_whole _)
  rw [after0_3]
  have k0 : ((((cfg0.win 3).blk t).view.emb y) (0 : Fin 3)).val = (y (0 : Fin 3)).val := by blk_simp [idx t]
  have k1 : ((((cfg0.win 3).blk t).view.emb y) (1 : Fin 3)).val = t.val * 512 + (y (1 : Fin 3)).val := by blk_simp [idx t]
  have k2 : ((((cfg0.win 3).blk t).view.emb y) (2 : Fin 3)).val = (y (2 : Fin 3)).val := by blk_simp [idx t]
  have h := block_apply m c t y ((((cfg0.win 3).blk t).view.emb y) (0 : Fin 3)) ((((cfg0.win 3).blk t).view.emb y) (1 : Fin 3)) ((((cfg0.win 3).blk t).view.emb y) (2 : Fin 3)) k0 k1 k2
  generalize out0_3 (iblk m c 0 t) (iblk m c 1 t) (iblk m c 2 t) = X at h ⊢
  refine Eq.trans ?_ h
  rfl

end Cert.Kernel3Ideal.Pj

end
-- ==== Proof.ProjectionRef.lean ====
/- What the projection's reference computes: the products of the normalized rows with the matrix's columns, in slabs. -/
module

public import proofs.«01_k».proof.Proof.Projection
public import proofs.«01_k».proof.Proof.Gen.Reference3Ideal.Read

@[expose] public section

set_option maxRecDepth 16384

noncomputable section

namespace Cert.Reference3Ideal.Pj

open Cert.Reference3Ideal Cert.Reference3Ideal.Gen Cert.Reference3Ideal.Read Idealize.ShloMosaic Idealize.ShloMosaic.TcCoe Cert.Projection

/-- The rows normalized and scaled by the gain. -/
theorem normed_apply (x : Vec Ideal S16384x1024 .f32) (g : Vec Ideal S1024 .f32) (r : Fin 16384) (d : Fin 1024) :
    val_main_v12 (F := Ideal) x g (ix2 r d) = normed (fun d => x (ix2 r d)) (fun d => g (ix1 d)) d := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The result at an entry. -/
theorem result_apply (x : Vec Ideal S16384x1024 .f32) (g : Vec Ideal S1024 .f32) (w : Vec Ideal S1024x5120 .f32) (a : Fin 10) (r : Fin 16384) (l : Fin 512) :
    val_main_v16 (F := Ideal) x g w (ix3 a r l) = proj (fun d => x (ix2 r d)) (fun d => g (ix1 d)) (fun d => w (ix2 d (column a l))) := by
  unfold proj
  simp only [← normed_apply]
  pointwise [val_main_v16, val_main_v15, val_main_v14, val_main_v13]
  rfl

end Cert.Reference3Ideal.Pj

end
-- ==== Proof.Combination.lean ====
/- The combination of the experts' results, in mathematics: to each token's row are added the rows of the results its four places name,
   weighted, and the sum is normalized by its root mean square and scaled by a gain. -/
module

public import proofs.«01_k».proof.Proof.Projection

@[expose] public section

noncomputable section

namespace Cert.Combination

open Idealize.ShloMosaic Cert.Projection

/-- The place of token `r`'s choice `k`. -/
def slot (r : Fin 16384) (k : Fin 4) : Fin 65536 := ⟨4 * r.val + k.val, by omega⟩
/-- The weight of choice `k` among a token's routing values. -/
def lane (k : Fin 4) : Fin 128 := ⟨4 + k.val, by omega⟩
/-- The row a place names. -/
def rowOf (p : BitVec 32) : Fin 81920 := ⟨p.toNat % 81920, Nat.mod_lt _ (by decide)⟩

/-- A token's entry with its four weighted rows' entries added. -/
def blend (h : EReal) (w y : Fin 4 → EReal) : EReal := h + ∑ k : Fin 4, w k * y k

/-- The blend, added one row after another. -/
theorem blend_eq (h : EReal) (w y : Fin 4 → EReal) : h + w 0 * y 0 + w 1 * y 1 + w 2 * y 2 + w 3 * y 3 = blend h w y := by
  unfold blend
  rw [Fin.sum_univ_four]
  simp only [add_assoc]

/-- The combination at token `r`, entry `d`. -/
def combined (y : Fin 81920 → Fin 1024 → EReal) (p : Fin 65536 → BitVec 32) (h : Fin 16384 → Fin 1024 → EReal) (w : Fin 16384 → Fin 128 → EReal)
    (g : Fin 1024 → EReal) (r : Fin 16384) (d : Fin 1024) : EReal :=
  normed (fun d => blend (h r d) (fun k => w r (lane k)) fun k => y (rowOf (p (slot r k))) d) g d

end Cert.Combination

end
-- ==== Proof.CombineRows.lean ====
/- The combination's transfers, one by one: transfer t = 4 j + k copies the row of y that place t of the block names into row (k, j) of the
   scratch. The elements each of them reads and writes, and what the scratch holds once all have landed. -/
module

public import proofs.«01_k».proof.Proof.Gen.Kernel4Ideal.Frame
public import Idealize.ShloMosaic.Lib.Pipeline.ValueKit.Basic
public import Idealize.ShloMosaic.Lib.VecWindow
public import Idealize.ShloMosaic.Lib.Batch
public import Idealize.ShloMosaic.Lib.Ring
public import Idealize.ShloMosaic.Lib.Tactic

@[expose] public section

set_option maxRecDepth 16384

noncomputable section

namespace Cert.Kernel4Ideal.Co

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The place at column `t` of a block of places. -/
def at1 (t : Fin 1024) : S1x1x1024.Idx := fun | ⟨0, _⟩ => (0 : Fin 1) | ⟨1, _⟩ => (0 : Fin 1) | ⟨2, _⟩ => t
/-- The row of `y` that place `t` of a block names. -/
def place (x : Vec F S1x1x1024 .i32) (t : Fin 1024) : ℕ := (show BitVec 32 from x (at1 t)).toNat
/-- Row `t` of the scratch: plane `t % 4`, line `t / 4`. -/
def rowSet (t : Fin 1024) : Finset S4x256x1024.Idx := Finset.univ.filter fun y => (y 0).val = t.val % 4 ∧ (y 1).val = t.val / 4
/-- Row `p` of `y`. -/
def srcSet (p : ℕ) : Finset S81920x1024.Idx := Finset.univ.filter fun y => (y 0).val = p

/-- The transfer that lands on an element of the scratch. -/
def num (y : S4x256x1024.Idx) : Fin 1024 := ⟨4 * (y 1).val + (y 0).val, by
  have h0 : (y 0).val < 4 := (y 0).isLt
  have h1 : (y 1).val < 256 := (y 1).isLt
  omega⟩
/-- Column `d` of row `p` of `y` (at row 0 where `p` is none). -/
def cell (p : ℕ) (d : Fin 1024) : S81920x1024.Idx := fun
  | ⟨0, _⟩ => if h : p < 81920 then (⟨p, h⟩ : Fin 81920) else (⟨0, by decide⟩ : Fin 81920)
  | ⟨1, _⟩ => d
/-- What the scratch holds once every transfer has landed: at (k, j, d), column d of the row of y that place 4 j + k names. -/
def gathered (x : Vec F S1x1x1024 .i32) (y : Vec F S81920x1024 .f32) : Vec F S4x256x1024 .f32 :=
  fun i => y (cell (place x (num i)) (i 2))

theorem num_of_mem {t : Fin 1024} {i : S4x256x1024.Idx} (h : i ∈ rowSet t) : num i = t := by
  obtain ⟨-, h0, h1⟩ := Finset.mem_filter.mp h
  refine Fin.ext ?_
  show 4 * (i 1).val + (i 0).val = t.val
  omega

theorem mem_rowSet (i : S4x256x1024.Idx) : i ∈ rowSet (num i) := by
  have h0 : (i 0).val < 4 := (i 0).isLt
  refine Finset.mem_filter.mpr ⟨Finset.mem_univ _, ?_, ?_⟩
  · show (i 0).val = (4 * (i 1).val + (i 0).val) % 4
    omega
  · show (i 1).val = (4 * (i 1).val + (i 0).val) / 4
    omega

theorem rowSet_disjoint (t t' : Fin 1024) (h : t ≠ t') : Disjoint (rowSet t) (rowSet t') :=
  Finset.disjoint_left.mpr fun i hi hi' => h ((num_of_mem hi).symm.trans (num_of_mem hi'))

theorem rowSet_cover : Finset.univ.biUnion rowSet = (Finset.univ : Finset S4x256x1024.Idx) :=
  Finset.eq_univ_iff_forall.mpr fun i => Finset.mem_biUnion.mpr ⟨num i, Finset.mem_univ _, mem_rowSet i⟩

/-- The scratch and the array of the experts' results, as the body names them. -/
abbrev scr : Memref sig .tc .vmem S4x256x1024 .f32 := Memref.whole cc0_scratch0
@[inherit_doc scr] abbrev ys : Memref sig .tc .hbm S81920x1024 .f32 := Memref.whole main_arg0

/-- One line of the scratch, as a transfer names it; -/
abbrev dstM (off : Fin 3 → ℕ) (inb : ∀ a, off a + S1x1x1024.size a ≤ S4x256x1024.size a) : Memref sig .tc .vmem S1x1024 .f32 :=
  (scr.slice (Rect.unit (s := S4x256x1024) off S1x1x1024.size inb) (fun _ => rfl)).squeeze S1x1024 squeezes_S1x1x1024_S1x1024
/-- and one row of `y`. -/
abbrev srcM (off : Fin 2 → ℕ) (inb : ∀ a, off a + S1x1024.size a ≤ S81920x1024.size a) : Memref sig .tc .hbm S1x1024 .f32 :=
  ys.slice (Rect.unit (s := S81920x1024) off S1x1024.size inb) (fun _ => rfl)

/-- A row's index, with a leading unit axis put before it. -/
def up (x : S1x1024.Idx) : S1x1x1024.Idx := at1 (x 1)

theorem reshape_up (x : S1x1024.Idx) : Shape.reshapeEquiv (squeezes_S1x1x1024_S1x1024.numel_eq) x = up x := by
  refine Shape.reshapeEquiv_eq_of_rowMajor _ ?_
  have h0 : (x 0).val = 0 := by have h : (x 0).val < 1 := (x 0).isLt; omega
  refine (Shape.rowMajor_val_three _).trans (Eq.trans ?_ (Shape.rowMajor_val_two _).symm)
  show (0 * _ + 0) * _ + (x 1).val = (x 0).val * _ + (x 1).val
  rw [h0]; simp

/-- Where a transfer's destination and source put an index. -/
theorem dst_emb0 (off : Fin 3 → ℕ) (inb) (x : S1x1024.Idx) : (((dstM off inb).view.emb x : S4x256x1024.Idx) 0).val = off 0 := by
  show off 0 + 1 * ((Shape.reshapeEquiv (squeezes_S1x1x1024_S1x1024.numel_eq) x : S1x1x1024.Idx) 0).val = _
  rw [reshape_up]; rfl
@[inherit_doc dst_emb0] theorem dst_emb1 (off : Fin 3 → ℕ) (inb) (x : S1x1024.Idx) : (((dstM off inb).view.emb x : S4x256x1024.Idx) 1).val = off 1 := by
  show off 1 + 1 * ((Shape.reshapeEquiv (squeezes_S1x1x1024_S1x1024.numel_eq) x : S1x1x1024.Idx) 1).val = _
  rw [reshape_up]; rfl
@[inherit_doc dst_emb0] theorem dst_emb2 (off : Fin 3 → ℕ) (inb) (x : S1x1024.Idx) :
    (((dstM off inb).view.emb x : S4x256x1024.Idx) 2).val = off 2 + (x 1).val := by
  show off 2 + 1 * ((Shape.reshapeEquiv (squeezes_S1x1x1024_S1x1024.numel_eq) x : S1x1x1024.Idx) 2).val = _
  rw [reshape_up]
  show off 2 + 1 * (x 1).val = _
  omega
@[inherit_doc dst_emb0] theorem src_emb0 (off : Fin 2 → ℕ) (inb) (x : S1x1024.Idx) : (((srcM off inb).view.emb x : S81920x1024.Idx) 0).val = off 0 := by
  have h : (x 0).val < 1 := (x 0).isLt
  show off 0 + 1 * (x 0).val = _
  omega
@[inherit_doc dst_emb0] theorem src_emb1 (off : Fin 2 → ℕ) (inb) (x : S1x1024.Idx) :
    (((srcM off inb).view.emb x : S81920x1024.Idx) 1).val = off 1 + (x 1).val := by
  show off 1 + 1 * (x 1).val = _
  omega

/-- The destination of transfer `t` is row `t` of the scratch. -/
theorem dst_set (t : Fin 1024) (off : Fin 3 → ℕ) (inb) (h0 : off 0 = t.val % 4) (h1 : off 1 = t.val / 4) : (dstM off inb).view.set ⊆ rowSet t := by
  intro i hi
  obtain ⟨x, -, rfl⟩ := Finset.mem_map.mp hi
  exact Finset.mem_filter.mpr ⟨Finset.mem_univ _, (dst_emb0 off inb x).trans h0, (dst_emb1 off inb x).trans h1⟩

/-- The source at row `p` is row `p` of `y`. -/
theorem src_set (p : ℕ) (off : Fin 2 → ℕ) (inb) (h0 : off 0 = p) (h1 : off 1 = 0) : (srcM off inb).view.set = srcSet p := by
  ext i
  constructor
  · intro hi
    obtain ⟨x, -, rfl⟩ := Finset.mem_map.mp hi
    exact Finset.mem_filter.mpr ⟨Finset.mem_univ _, (src_emb0 off inb x).trans h0⟩
  · intro hi
    obtain ⟨-, hp⟩ := Finset.mem_filter.mp hi
    refine Finset.mem_map.mpr ⟨fun | ⟨0, _⟩ => (0 : Fin 1) | ⟨1, _⟩ => i 1, Finset.mem_univ _, funext fun a => Fin.ext ?_⟩
    match a with
    | ⟨0, _⟩ => exact (src_emb0 off inb _).trans (h0.trans hp.symm)
    | ⟨1, _⟩ => exact (src_emb1 off inb _).trans (by rw [h1]; exact Nat.zero_add _)

/-- What transfer `t` lands on its row: the row of `y` its place names. -/
theorem landed (x : Vec F S1x1x1024 .i32) (y : Vec F S81920x1024 .f32) (f : Vec F S4x256x1024 .f32) (t : Fin 1024) (hp : place x t < 81920)
    (off : Fin 3 → ℕ) (inb) (h0 : off 0 = t.val % 4) (h1 : off 1 = t.val / 4) (h2 : off 2 = 0)
    (off' : Fin 2 → ℕ) (inb') (h0' : off' 0 = place x t) (h1' : off' 1 = 0) :
    ∀ i ∈ rowSet t, (dstM off inb).view.write (Elt F) f ((srcM off' inb').view.read (Elt F) y) Finset.univ i = gathered x y i := by
  intro i hi
  have hn := num_of_mem hi
  obtain ⟨-, e0, e1⟩ := Finset.mem_filter.mp hi
  obtain ⟨z, hz⟩ : ∃ z : S1x1024.Idx, (z 1).val = (i 2).val := ⟨fun | ⟨0, _⟩ => (0 : Fin 1) | ⟨1, _⟩ => i 2, rfl⟩
  have hi' : i = (dstM off inb).view.emb z := funext fun a => Fin.ext (by
    match a with
    | ⟨0, _⟩ => exact e0.trans (h0.symm.trans (dst_emb0 off inb z).symm)
    | ⟨1, _⟩ => exact e1.trans (h1.symm.trans (dst_emb1 off inb z).symm)
    | ⟨2, _⟩ => exact hz.symm.trans ((Nat.zero_add _).symm.trans ((congrArg (· + (z 1).val) h2.symm).trans (dst_emb2 off inb z).symm)))
  have hw : (dstM off inb).view.write (Elt F) f ((srcM off' inb').view.read (Elt F) y) Finset.univ ((dstM off inb).view.emb z)
      = (srcM off' inb').view.read (Elt F) y z := View.write_emb_of_mem _ _ (Finset.mem_univ z)
  rw [← hi'] at hw
  refine hw.trans ?_
  show y ((srcM off' inb').view.emb z) = y (cell (place x (num i)) (i 2))
  rw [hn]
  refine congrArg y (funext fun a => Fin.ext ?_)
  match a with
  | ⟨0, _⟩ =>
    refine (src_emb0 off' inb' z).trans (h0'.trans ?_)
    show _ = (if h : place x t < 81920 then (⟨place x t, h⟩ : Fin 81920) else (⟨0, by decide⟩ : Fin 81920)).val
    rw [dif_pos hp]
  | ⟨1, _⟩ => exact (src_emb1 off' inb' z).trans (by rw [h1', hz]; exact Nat.zero_add _)

end Cert.Kernel4Ideal.Co

end
-- ==== Proof.CombineIssue.lean ====
/- The combination's two loops: 256 trips that start four transfers each, and 1024 waits after which every one has landed. -/
module

public import proofs.«01_k».proof.Proof.CombineRows

@[expose] public section

set_option maxRecDepth 16384

noncomputable section

namespace Cert.Kernel4Ideal.Co

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What transfer `t` delivers: row `t` of the scratch at the row of `y` its place names, and its share of that row back. -/
def deliv (c : Dev nD) (x : Vec F S1x1x1024 .i32) (y : Vec F S81920x1024 .f32) (t : Fin 1024) : sProp 𝕄 :=
  iprop((scr.view.loc (c : Thread nD τ) ↦[rowSet t]{fullShare} gathered x y)
    ∗ (ys.view.loc (c : Thread nD τ) ↦[srcSet (place x t)]{Transfers.shareTokN fullShare t.val} y))

instance deliv_storable (c : Dev nD) (x : Vec F S1x1x1024 .i32) (y : Vec F S81920x1024 .f32) (t : Fin 1024) :
    BI.Storable (upEmb : UEmb _ 𝕄) (deliv c x y t) := by
  unfold deliv; infer_instance

/-- The credit of one row: 128 units. -/
abbrev NN : ℕ := 128

/-- The kernel's own semaphore, with `j` transfers started and `u` units waited for. -/
abbrev batch (c : Dev nD) (arg8 : DmaSems sig S_) (x : Vec F S1x1x1024 .i32) (y : Vec F S81920x1024 .f32) (j u : ℕ) : sProp 𝕄 :=
  Transfers.Batch (countersEmb (U := Pipeline.UD sig nD τ)) (c : Thread nD τ) (.dma arg8.sem) () NN (deliv c x y) j u

theorem credit (off : Fin 3 → ℕ) (inb) : (dstM off inb).view.dmaCredit = NN := by
  show RefSig.tileCredit S1x1024 .f32 = 128
  decide

/-- Starting transfer `t`: its row of the scratch and its share of the row of `y` go in, one more transfer is under way. -/
theorem issue_one (c : Dev nD) (arg8 : DmaSems sig S_) (x : Vec F S1x1x1024 .i32) (y : Vec F S81920x1024 .f32) (f : Vec F S4x256x1024 .f32)
    (t : ℕ) (ht : t < 1024) (hp : place x ⟨t, ht⟩ < 81920)
    (off : Fin 3 → ℕ) (inb) (h0 : off 0 = t % 4) (h1 : off 1 = t / 4) (h2 : off 2 = 0)
    (off' : Fin 2 → ℕ) (inb') (h0' : off' 0 = place x ⟨t, ht⟩) (h1' : off' 1 = 0)
    {α : Type} {hs : (srcM off' inb').view.WordExact} {hd : (dstM off inb).view.WordExact}
    {hy : DmaTarget.Typed (nD := nD) (τ := τ) (p := .tc) .hbm (.dma arg8.sem) (.here (dstM off inb))}
    {k : PUnit → Prog (TpuEff nD τ sig (Elt F) Λ₀ .tc) α} {Q : α → sProp 𝕄} :
    iprop((ys.view.loc (c : Thread nD τ) ↦[srcSet (place x ⟨t, ht⟩)]{Transfers.shareTokN fullShare t} y)
        ∗ (scr.view.loc (c : Thread nD τ) ↦[rowSet ⟨t, ht⟩]{fullShare} f) ∗ batch c arg8 x y t 0)
      ⊢ iprop((batch c arg8 x y (t + 1) 0 -∗ wp frame (wpE (defs₀ (F := F)) Variants.none (c : Thread nD τ) none) Set.univ (k ⟨⟩) Q)
        -∗ wp frame (wpE (defs₀ (F := F)) Variants.none (c : Thread nD τ) none) Set.univ
            (.op (.enqueueDma (srcM off' inb') (.here (dstM off inb)) (.dma arg8.sem) hs hd hy) k) Q) := by
  rw [← src_set (place x ⟨t, ht⟩) off' inb' h0' h1']
  refine Transfers.wp_dmaBatch (countersEmb (U := Pipeline.UD sig nD τ)) Variants.none (c : Thread nD τ) none (src := srcM off' inb') (dst := dstM off inb)
    (sm := .dma arg8.sem) () NN (credit off inb) (dst_set ⟨t, ht⟩ off inb h0 h1) ht (Nat.zero_le _) ?_
  unfold deliv
  rw [src_set (place x ⟨t, ht⟩) off' inb' h0' h1']
  refine sep_mono (Entails.of_eq ?_) .rfl
  exact pointsTo_congr (landed x y f ⟨t, ht⟩ hp off inb h0 h1 h2 off' inb' h0' h1')

/-- The word the body loads from a block of places at an offset. -/
abbrev word (c : Dev nD) (arg1 : Memref sig .tc .smem S1x1x1024 .i32) (fx : Buf (Elt F) (arg1.view.loc (c : Thread nD τ)))
    (off : Fin 3 → ℕ) (inb : ∀ a, off a + S1x1x1.size a ≤ S1x1x1024.size a) : BitVec 32 :=
  View.readAt (Elt F) arg1.view (Rect.unit (s := S1x1x1024) off S1x1x1.size inb).toLoadRect fx (Shape.Idx.first (numel1_S1x1x1.symm ▸ Nat.one_pos))

/-- It is the word at the offset's column. -/
theorem word_eq (c : Dev nD) (arg1 : Memref sig .tc .smem S1x1x1024 .i32) (fx : Buf (Elt F) (arg1.view.loc (c : Thread nD τ))) (x : Vec F S1x1x1024 .i32)
    (hfx : arg1.view.read (Elt F) fx = x) (off : Fin 3 → ℕ) (inb) (t : Fin 1024) (h : off 2 = t.val) : (word c arg1 fx off inb).toNat = place x t := by
  have e : word c arg1 fx off inb = arg1.view.read (Elt F) fx ((Rect.unit (s := S1x1x1024) off S1x1x1.size inb).emb (Shape.Idx.first (numel1_S1x1x1.symm ▸ Nat.one_pos))) := rfl
  rw [e, hfx]
  unfold place
  refine congrArg BitVec.toNat (congrArg x (funext fun a => Fin.ext ?_))
  have h0 := inb 0
  have h1 := inb 1
  match a with
  | ⟨0, _⟩ => show off 0 + 1 * 0 = 0; change off 0 + 1 ≤ 1 at h0; omega
  | ⟨1, _⟩ => show off 1 + 1 * 0 = 0; change off 1 + 1 ≤ 1 at h1; omega
  | ⟨2, _⟩ => show off 2 + 1 * 0 = t.val; omega

/-- The offsets of trip `k`, as numbers. -/
theorem off1 (k : Fin k0_t1_loop.trips) : k0_off1 k 2 = 4 * k.val := by revert k; decide +kernel
@[inherit_doc off1] theorem off4 (k : Fin k0_t1_loop.trips) : k0_off4 k 2 = 4 * k.val + 1 := by revert k; decide +kernel
@[inherit_doc off1] theorem off7 (k : Fin k0_t1_loop.trips) : k0_off7 k 2 = 4 * k.val + 1 + 1 := by revert k; decide +kernel
@[inherit_doc off1] theorem off10 (k : Fin k0_t1_loop.trips) : k0_off10 k 2 = 4 * k.val + 1 + 1 + 1 := by revert k; decide +kernel
@[inherit_doc off1] theorem off2 (k : Fin k0_t1_loop.trips) : k0_off2 k 1 = k.val := by revert k; decide +kernel
@[inherit_doc off1] theorem off5 (k : Fin k0_t1_loop.trips) : k0_off5 k 1 = k.val := by revert k; decide +kernel
@[inherit_doc off1] theorem off8 (k : Fin k0_t1_loop.trips) : k0_off8 k 1 = k.val := by revert k; decide +kernel
@[inherit_doc off1] theorem off11 (k : Fin k0_t1_loop.trips) : k0_off11 k 1 = k.val := by revert k; decide +kernel

/-- Before trip `j` of the first loop: `4 j` transfers under way, the rows and the shares of the others in hand, and the block of places. -/
def issueAt (c : Dev nD) (arg1 : Memref sig .tc .smem S1x1x1024 .i32) (arg8 : DmaSems sig S_) (x : Vec F S1x1x1024 .i32) (fx : Buf (Elt F) (arg1.view.loc (c : Thread nD τ)))
    (y : Vec F S81920x1024 .f32) (f : Vec F S4x256x1024 .f32) (j : ℕ) (_ : PUnit) : sProp 𝕄 :=
  iprop((arg1.view.loc (c : Thread nD τ) ↦[arg1.view.set]{fullShare} fx) ∗ batch c arg8 x y (4 * j) 0
    ∗ bigSep (Ring.rangeSet 1024 (4 * j) 1024) (fun t => (scr.view.loc (c : Thread nD τ) ↦[rowSet t]{fullShare} f : sProp 𝕄))
    ∗ bigSep (Ring.rangeSet 1024 (4 * j) 1024) (fun t => (ys.view.loc (c : Thread nD τ) ↦[srcSet (place x t)]{Transfers.shareTokN fullShare t.val} y : sProp 𝕄)))

/-- One trip of the first loop. -/
theorem issue_step (c : Dev nD) (i : grid0.Coords) (arg1 : Memref sig .tc .smem S1x1x1024 .i32) (harg1 : arg1.IsWhole)
    (arg3 : Memref sig .tc .vmem S256x1024 .f32) (harg3 : arg3.IsWhole) (arg4 : Memref sig .tc .vmem S256x128 .f32) (harg4 : arg4.IsWhole)
    (arg5 : Memref sig .tc .vmem S1x1024 .f32) (harg5 : arg5.IsWhole) (arg6 : Memref sig .tc .vmem S256x1024 .f32) (harg6 : arg6.IsWhole)
    (hys : ys.IsWhole) (hscr : scr.IsWhole) (arg8 : DmaSems sig S_)
    (x : Vec F S1x1x1024 .i32) (hx : ∀ t, place x t < 81920) (fx : Buf (Elt F) (arg1.view.loc (c : Thread nD τ))) (hfx : arg1.view.read (Elt F) fx = x)
    (y : Vec F S81920x1024 .f32) (f : Vec F S4x256x1024 .f32) (k : Fin k0_t1_loop.trips) (acc : PUnit) :
    issueAt c arg1 arg8 x fx y f k.val acc ⊢ wp frame (wpE (defs₀ (F := F)) Variants.none (c : Thread nD τ) none) Set.univ
      (do
        let ⟨v67, k0_hw4⟩ : Σ' (v67 : Elt F .i32), k0_chk4 v67 ← k0_part1 i arg1 harg1 ys hys arg3 harg3 arg4 harg4 arg5 harg5 arg6 harg6 scr hscr arg8 0#32 1#32 k
        Prog.lift (.enqueueDma (srcM (k0_off12 v67) (k0_off12_inb v67 k0_hw4)) (.here (dstM (k0_off11 k) (k0_off11_inb k))) (.dma arg8.sem) (View.wordExact_bits rfl) ((View.wordExact_bits rfl).reshape _ _) ⟨Or.inl rfl, trivial⟩)
        pure ⟨⟩)
      (issueAt c arg1 arg8 x fx y f (k.val + 1)) := by
  have hk : k.val < 256 := k.isLt
  unfold issueAt
  rw [Ring.bigSep_rangeSet_head (lo := 4 * k.val) (by omega) (by omega), Ring.bigSep_rangeSet_head (lo := 4 * k.val + 1) (by omega) (by omega),
    Ring.bigSep_rangeSet_head (lo := 4 * k.val + 1 + 1) (by omega) (by omega), Ring.bigSep_rangeSet_head (lo := 4 * k.val + 1 + 1 + 1) (by omega) (by omega),
    Ring.bigSep_rangeSet_head (lo := 4 * k.val) (by omega) (by omega), Ring.bigSep_rangeSet_head (lo := 4 * k.val + 1) (by omega) (by omega),
    Ring.bigSep_rangeSet_head (lo := 4 * k.val + 1 + 1) (by omega) (by omega), Ring.bigSep_rangeSet_head (lo := 4 * k.val + 1 + 1 + 1) (by omega) (by omega),
    show 4 * (k.val + 1) = 4 * k.val + 1 + 1 + 1 + 1 by omega]
  have e1 := word_eq c arg1 fx x hfx (k0_off1 k) (k0_off1_inb k) ⟨4 * k.val, by omega⟩ (off1 k)
  have e2 := word_eq c arg1 fx x hfx (k0_off4 k) (k0_off4_inb k) ⟨4 * k.val + 1, by omega⟩ (off4 k)
  have e3 := word_eq c arg1 fx x hfx (k0_off7 k) (k0_off7_inb k) ⟨4 * k.val + 1 + 1, by omega⟩ (off7 k)
  have e4 := word_eq c arg1 fx x hfx (k0_off10 k) (k0_off10_inb k) ⟨4 * k.val + 1 + 1 + 1, by omega⟩ (off10 k)
  have hc : ∀ (w : BitVec 32) (t : Fin 1024), w.toNat = place x t → ∀ a : Fin 2, (![w.toNat, 0] : Fin 2 → ℕ) a + S1x1024.size a ≤ S81920x1024.size a := by
    intro w t hw a
    have := hx t
    match a with
    | ⟨0, _⟩ => show w.toNat + 1 ≤ 81920; omega
    | ⟨1, _⟩ => show 0 + 1024 ≤ 1024; omega
  have hc1 : k0_chk1 (word c arg1 fx (k0_off1 k) (k0_off1_inb k)) := hc _ _ e1
  have hc2 : k0_chk2 (word c arg1 fx (k0_off4 k) (k0_off4_inb k)) := hc _ _ e2
  have hc3 : k0_chk3 (word c arg1 fx (k0_off7 k) (k0_off7_inb k)) := hc _ _ e3
  have hc4 : k0_chk4 (word c arg1 fx (k0_off10 k) (k0_off10_inb k)) := hc _ _ e4
  iintro ⟨HX, HB, ⟨HR0, HR1, HR2, HR3, HR⟩, HS0, HS1, HS2, HS3, HS⟩
  sl_unfold [k0_part1]
  sl_exec (disch := first | exact hc1 | exact hc2 | exact hc3 | exact hc4)
  iapply (issue_one c arg8 x y f (4 * k.val) (by omega) (hx _) (k0_off2 k) _ (show _ = (4 * k.val) % 4 by show 0 = _; omega) ((off2 k).trans (by omega)) rfl _ _ e1 rfl) $$ [HS0 HR0 HB]
  · isplitl [HS0]; · iexact HS0
    isplitl [HR0]; · iexact HR0
    iexact HB
  iintro HB
  sl_exec (disch := first | exact hc1 | exact hc2 | exact hc3 | exact hc4)
  iapply (issue_one c arg8 x y f (4 * k.val + 1) (by omega) (hx _) (k0_off5 k) _ (show _ = (4 * k.val + 1) % 4 by show 1 = _; omega) ((off5 k).trans (by omega)) rfl _ _ e2 rfl) $$ [HS1 HR1 HB]
  · isplitl [HS1]; · iexact HS1
    isplitl [HR1]; · iexact HR1
    iexact HB
  iintro HB
  sl_exec (disch := first | exact hc1 | exact hc2 | exact hc3 | exact hc4)
  iapply (issue_one c arg8 x y f (4 * k.val + 1 + 1) (by omega) (hx _) (k0_off8 k) _ (show _ = (4 * k.val + 1 + 1) % 4 by show 2 = _; omega) ((off8 k).trans (by omega)) rfl _ _ e3 rfl) $$ [HS2 HR2 HB]
  · isplitl [HS2]; · iexact HS2
    isplitl [HR2]; · iexact HR2
    iexact HB
  iintro HB
  sl_exec (disch := first | exact hc1 | exact hc2 | exact hc3 | exact hc4)
  iapply (issue_one c arg8 x y f (4 * k.val + 1 + 1 + 1) (by omega) (hx _) (k0_off11 k) _ (show _ = (4 * k.val + 1 + 1 + 1) % 4 by show 3 = _; omega) ((off11 k).trans (by omega)) rfl _ _ e4 rfl) $$ [HS3 HR3 HB]
  · isplitl [HS3]; · iexact HS3
    isplitl [HR3]; · iexact HR3
    iexact HB
  iintro HB
  sl_exec
  sl_step
  isplitl [HX]; · iexact HX
  isplitl [HB]; · iexact HB
  isplitl [HR]; · iexact HR
  iexact HS

/-- Before trip `j` of the second loop: `j` rows waited for; after its last, everything delivered. -/
def drainAt (c : Dev nD) (arg8 : DmaSems sig S_) (x : Vec F S1x1x1024 .i32) (y : Vec F S81920x1024 .f32) (j : ℕ) (_ : PUnit) : sProp 𝕄 :=
  iprop(⌜j ≤ 1024⌝ ∗ (∃ W, owes (c : Thread nD τ) 0 W)
    ∗ (if j < 1024 then batch c arg8 x y 1024 (j * NN)
       else iprop(semVal ((c : Thread nD τ), SemLoc.dma arg8.sem) 0 ∗ bigSep Finset.univ (deliv c x y))))

/-- One trip of the second loop. -/
theorem drain_step (c : Dev nD) (arg8 : DmaSems sig S_) (x : Vec F S1x1x1024 .i32) (y : Vec F S81920x1024 .f32) (k : Fin k0_t2_loop.trips) (acc : PUnit) :
    drainAt c arg8 x y k.val acc ⊢ wp frame (wpE (defs₀ (F := F)) Variants.none (c : Thread nD τ) none) Set.univ
      (do
        Prog.lift (.waitDma2 arg8.sem (srcM ![0, 0] inb_S81920x1024_S1x1024_0_0) (dstM ![0, 0, 0] inb_S4x256x1024_S1x1x1024_0_0_0) (View.wordExact_bits rfl) ((View.wordExact_bits rfl).reshape _ _))
        pure ⟨⟩)
      (drainAt c arg8 x y (k.val + 1)) := by
  have hk : k.val < 1024 := k.isLt
  unfold drainAt
  simp only [if_pos hk]
  rcases Nat.lt_or_ge (k.val + 1) 1024 with h1 | h1
  · simp only [if_pos h1]
    iintro ⟨-, ⟨%W, HO⟩, HB⟩
    sl_exec
    sl_step
    isplitr; · ipureintro; omega
    isplitl [HO]; · iexists _; iexact HO
    rw [show (k.val + 1) * NN = k.val * NN + NN by simp only [NN]; omega]
    iexact HB
  · simp only [if_neg (Nat.not_lt.mpr h1)]
    iintro ⟨-, ⟨%W, HO⟩, HB⟩
    sl_exec
    sl_step
    isplitr; · ipureintro; omega
    isplitl [HO]; · iexists _; iexact HO
    isplitl [HB]; · iexact HB
    iexact HB_all

end Cert.Kernel4Ideal.Co

end
-- ==== Proof.CombineBody.lean ====
/- The combination's kernel body at one grid point, from any contents of its operands: the scratch is filled with the rows of y the block's
   places name, and the result is the block of h plus the four weighted planes of the scratch, normalized and scaled. -/
module

public import proofs.«01_k».proof.Proof.CombineIssue

@[expose] public section

set_option maxRecDepth 16384

noncomputable section

namespace Cert.Kernel4Ideal.Co

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The array of the experts' results, dealt out: a share of it kept, the row each place names at a share of its own, and the rest of each share. -/
theorem deal (c : Dev nD) (x : Vec F S1x1x1024 .i32) (y : Vec F S81920x1024 .f32) :
    (ys.view.loc (c : Thread nD τ) ↦{fullShare} y : sProp 𝕄)
      ⊣⊢ iprop((ys.view.loc (c : Thread nD τ) ↦{Transfers.shareDrop fullShare 1024} y)
        ∗ bigSep Finset.univ (fun t : Fin 1024 => (ys.view.loc (c : Thread nD τ) ↦[srcSet (place x t)]{Transfers.shareTokN fullShare t.val} y : sProp 𝕄))
        ∗ bigSep Finset.univ (fun t : Fin 1024 => (ys.view.loc (c : Thread nD τ) ↦[Finset.univ \ srcSet (place x t)]{Transfers.shareTokN fullShare t.val} y : sProp 𝕄))) := by
  have e : (fun t : Fin 1024 => (ys.view.loc (c : Thread nD τ) ↦{Transfers.shareTokN fullShare t.val} y : sProp 𝕄))
      = fun t : Fin 1024 => iprop((ys.view.loc (c : Thread nD τ) ↦[srcSet (place x t)]{Transfers.shareTokN fullShare t.val} y)
          ∗ (ys.view.loc (c : Thread nD τ) ↦[Finset.univ \ srcSet (place x t)]{Transfers.shareTokN fullShare t.val} y)) :=
    funext fun t => BI.Entails.antisymm (pointsTo_split_subset (Finset.subset_univ _)).1 (pointsTo_split_subset (Finset.subset_univ _)).2
  have e' := (congrArg (bigSep (Finset.univ : Finset (Fin 1024))) e).trans (BI.bigSep_sep _ _ _)
  have h := Transfers.pointsTo_toks (nD := nD) (τ := τ) (sig := sig) (Ix := Unit) (Val := Elt F) (Name := ℕ) (U := Pipeline.UD sig nD τ) (Lvl := ℕ)
    (ℓ := ys.view.loc (c : Thread nD τ)) (S := Finset.univ) (f := y) fullShare 1024
  exact ⟨h.1.trans (sep_mono .rfl (Entails.of_eq e')), (sep_mono .rfl (Entails.of_eq e'.symm)).trans h.2⟩

/-- Everything delivered is the scratch at the gathered rows and the shares back. -/
theorem deliv_all (c : Dev nD) (x : Vec F S1x1x1024 .i32) (y : Vec F S81920x1024 .f32) :
    (bigSep Finset.univ (deliv c x y) : sProp 𝕄) ⊢ iprop((scr.view.loc (c : Thread nD τ) ↦{fullShare} gathered x y)
        ∗ bigSep Finset.univ (fun t : Fin 1024 => (ys.view.loc (c : Thread nD τ) ↦[srcSet (place x t)]{Transfers.shareTokN fullShare t.val} y : sProp 𝕄))) := by
  rw [Ring.pointsTo_blocks (ℓ := scr.view.loc (c : Thread nD τ)) rowSet rowSet_disjoint rowSet_cover (gathered x y)]
  exact Entails.of_eq (BI.bigSep_sep _ _ _)

/-- A load of a whole buffer reads its contents. -/
theorem load_full {s : Shape} {e : EltTy} (v : View sig .tc .vmem s e) (f : v.ty.Contents (Elt F)) {off : Fin s.rank → ℕ}
    (inb : ∀ a, off a + s.size a ≤ s.size a) : View.readAt (Elt F) v (Rect.unit off s.size inb).toLoadRect f = v.read (Elt F) f :=
  (View.readAt_eq_ld v f (Rect.unit off s.size inb)).trans (View.ld_unit_lit inb _ fun a => by have := inb a; omega)

/-- One plane of the scratch. -/
def plane (B : Vec F S4x256x1024 .f32) (k : Fin 4) : Vec F S1x256x1024 .f32 :=
  fun i => B fun | ⟨0, _⟩ => k | ⟨1, _⟩ => i 1 | ⟨2, _⟩ => i 2

/-- A load of one plane of the scratch. -/
theorem load_plane (B : Vec F S4x256x1024 .f32) (k : Fin 4) (inb : ∀ a, (![k.val, 0, 0] : Fin 3 → ℕ) a + S1x256x1024.size a ≤ S4x256x1024.size a) :
    View.readAt (Elt F) scr.view (Rect.unit (s := S4x256x1024) ![k.val, 0, 0] S1x256x1024.size inb).toLoadRect B = plane B k := by
  funext i
  have h0 : (i 0).val < 1 := (i 0).isLt
  refine congrArg B (funext fun a => Fin.ext ?_)
  match a with
  | ⟨0, _⟩ => show k.val + 1 * (i 0).val = k.val; omega
  | ⟨1, _⟩ => show 0 + 1 * (i 1).val = (i 1).val; omega
  | ⟨2, _⟩ => show 0 + 1 * (i 2).val = (i 2).val; omega

/-- The block of `h` plus the four weighted planes. -/
def total (h : Vec F S256x1024 .f32) (w : Vec F S256x128 .f32) (p0 p1 p2 p3 : Vec F S1x256x1024 .f32) : FVec F S256x1024 .f32 :=
  addf (addf (addf (addf h (mulf (broadcastTo S256x1024 (extractStridedSlice S256x1 ![0, 4] w slices_S256x128_o0_4_S256x1) broadcasts_S256x1_S256x1024) (shapeCast S256x1024 p0 shapeCasts_S1x256x1024_S256x1024)))
    (mulf (broadcastTo S256x1024 (extractStridedSlice S256x1 ![0, 5] w slices_S256x128_o0_5_S256x1) broadcasts_S256x1_S256x1024) (shapeCast S256x1024 p1 shapeCasts_S1x256x1024_S256x1024)))
    (mulf (broadcastTo S256x1024 (extractStridedSlice S256x1 ![0, 6] w slices_S256x128_o0_6_S256x1) broadcasts_S256x1_S256x1024) (shapeCast S256x1024 p2 shapeCasts_S1x256x1024_S256x1024)))
    (mulf (broadcastTo S256x1024 (extractStridedSlice S256x1 ![0, 7] w slices_S256x128_o0_7_S256x1) broadcasts_S256x1_S256x1024) (shapeCast S256x1024 p3 shapeCasts_S1x256x1024_S256x1024))

/-- The result's block from that sum `v` and the scale `g`: the sum over the root of the mean of its squares, times the scale. -/
def normed (v : FVec F S256x1024 .f32) (g : Vec F S1x1024 .f32) : FVec F S256x1024 .f32 :=
  mulf (mulf v (broadcastTo S256x1024 (rsqrt (addf (divf (shapeCast S256x1 (multiReduction .add [1] S256 (mulf v v) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)

/-- The result's block from the operands' blocks and the array of the experts' results. -/
def outAt (x : Vec F S1x1x1024 .i32) (h : Vec F S256x1024 .f32) (w : Vec F S256x128 .f32) (g : Vec F S1x1024 .f32) (y : Vec F S81920x1024 .f32) : Vec F S256x1024 .f32 :=
  normed (total h w (plane (gathered x y) 0) (plane (gathered x y) 1) (plane (gathered x y) 2) (plane (gathered x y) 3)) g

theorem normed_congr {h h' : Vec F S256x1024 .f32} {w w' : Vec F S256x128 .f32} {p0 p0' p1 p1' p2 p2' p3 p3' : Vec F S1x256x1024 .f32} {g g' : Vec F S1x1024 .f32}
    (eh : h = h') (ew : w = w') (e0 : p0 = p0') (e1 : p1 = p1') (e2 : p2 = p2') (e3 : p3 = p3') (eg : g = g') :
    normed (total h w p0 p1 p2 p3) g = normed (total h' w' p0' p1' p2' p3') g' := by
  subst eh ew e0 e1 e2 e3 eg; rfl

/-- The body's triple: on whole buffers at any contents, the places all naming rows of `y`, it leaves the operands as they were, the scratch
    at the gathered rows, its semaphore at zero, and the result at `outAt` of what it found. -/
theorem body (c : Dev nD) (i : grid0.Coords) (arg1 : Memref sig .tc .smem S1x1x1024 .i32) (harg1 : arg1.IsWhole)
    (arg3 : Memref sig .tc .vmem S256x1024 .f32) (harg3 : arg3.IsWhole) (arg4 : Memref sig .tc .vmem S256x128 .f32) (harg4 : arg4.IsWhole)
    (arg5 : Memref sig .tc .vmem S1x1024 .f32) (harg5 : arg5.IsWhole) (arg6 : Memref sig .tc .vmem S256x1024 .f32) (harg6 : arg6.IsWhole)
    (hys : ys.IsWhole) (hscr : scr.IsWhole) (arg8 : DmaSems sig S_)
    (x : Vec F S1x1x1024 .i32) (hx : ∀ t, place x t < 81920) (h : Vec F S256x1024 .f32) (w : Vec F S256x128 .f32) (g : Vec F S1x1024 .f32) (o : Vec F S256x1024 .f32)
    (y : Vec F S81920x1024 .f32) (f : Vec F S4x256x1024 .f32) (W : Waits sig Unit) :
      ∀ (K : PUnit → sProp 𝕄),
        iprop(owns (c : Thread nD τ) arg1 fullShare x ∗ owns (c : Thread nD τ) arg3 fullShare h ∗ owns (c : Thread nD τ) arg4 fullShare w
            ∗ owns (c : Thread nD τ) arg5 fullShare g ∗ owns (c : Thread nD τ) arg6 fullShare o
            ∗ (scr.view.loc (c : Thread nD τ) ↦{fullShare} f) ∗ (ys.view.loc (c : Thread nD τ) ↦{fullShare} y)
            ∗ semVal ((c : Thread nD τ), SemLoc.dma arg8.sem) 0 ∗ owes (c : Thread nD τ) 0 W
            ∗ (iprop(owns (c : Thread nD τ) arg1 fullShare x ∗ owns (c : Thread nD τ) arg3 fullShare h ∗ owns (c : Thread nD τ) arg4 fullShare w
            ∗ owns (c : Thread nD τ) arg5 fullShare g ∗ owns (c : Thread nD τ) arg6 fullShare (outAt x h w g y)
            ∗ (scr.view.loc (c : Thread nD τ) ↦{fullShare} gathered x y) ∗ (ys.view.loc (c : Thread nD τ) ↦{fullShare} y)
            ∗ semVal ((c : Thread nD τ), SemLoc.dma arg8.sem) 0 ∗ (∃ W', owes (c : Thread nD τ) 0 W')) -∗ K ⟨⟩))
          ⊢ wp frame (wpE (defs₀ (F := F)) Variants.none (c : Thread nD τ) none) Set.univ
              (cc0_combine i arg1 harg1 ys hys arg3 harg3 arg4 harg4 arg5 harg5 arg6 harg6 scr hscr arg8) K := by
  intro K
  unfold owns cc0_combine
  rw [wp_bind]
  iintro ⟨⟨%f1, %hf1, H1⟩, ⟨%f3, %hf3, H3⟩, ⟨%f4, %hf4, H4⟩, ⟨%f5, %hf5, H5⟩, ⟨%f6, %hf6, H6⟩, HR, HY, HC, HO, Hk⟩
  ihave HY := ((deal c x y).1) $$ HY
  icases HY with ⟨HYk, HYt, HYr⟩
  ihave HR := (Entails.of_eq (Ring.pointsTo_blocks (ℓ := scr.view.loc (c : Thread nD τ)) rowSet rowSet_disjoint rowSet_cover f)) $$ HR
  imod (Transfers.batch_alloc' (Lvl := ℕ) (countersEmb (U := Pipeline.UD sig nD τ)) (c : Thread nD τ) () NN (deliv c x y) (sm := .dma arg8.sem) (E := Set.univ)) $$ HC with HB
  sl_respell [k0_part2]
  sl_for (issueAt c arg1 arg8 x f1 y f) $$ [H1 HB HR HYt]
  · intro k acc
    exact issue_step c i arg1 harg1 arg3 harg3 arg4 harg4 arg5 harg5 arg6 harg6 hys hscr arg8 x hx f1 hf1 y f k acc
  · unfold issueAt
    rw [show 4 * 0 = 0 from rfl, Ring.rangeSet_univ]
    iframe
  iintro %acc HI
  unfold issueAt
  rw [show 4 * Scf.trips k0_t1_loop.lb k0_t1_loop.ub k0_t1_loop.st = 1024 from rfl, Ring.bigSep_rangeSet_empty (le_refl _), Ring.bigSep_rangeSet_empty (le_refl _)]
  icases HI with ⟨H1, HB, -, -⟩
  sl_exec
  sl_for (drainAt c arg8 x y) $$ [HO HB]
  · intro k acc
    exact drain_step c arg8 x y k acc
  · unfold drainAt
    simp only [if_pos (show 0 < 1024 by decide), Nat.zero_mul]
    isplitr; · ipureintro; omega
    isplitl [HO]; · iexists W; iexact HO
    iexact HB
  iintro %acc2 HI
  unfold drainAt
  rw [show Scf.trips k0_t2_loop.lb k0_t2_loop.ub k0_t2_loop.st = 1024 from rfl]
  simp only [if_neg (show ¬ (1024 < 1024) by decide)]
  icases HI with ⟨-, ⟨%W', HO⟩, HC, HD⟩
  ihave HD := (deliv_all c x y) $$ HD
  icases HD with ⟨HR, HYt⟩
  ihave HY := ((deal c x y).2) $$ [HYk HYt HYr]
  · iframe
  sl_exec
  sl_step
  iapply Hk
  isplitl [H1]; · iexists f1; isplitr; · ipureintro; exact hf1
                  iexact H1
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  isplitl [H6]
  · iexists _; isplitr; swap; · iexact H6
    ipureintro
    refine (View.read_writes_full _ _ _ _ []).trans ?_
    exact normed_congr ((load_full _ _ _).trans hf3) ((load_full _ _ _).trans hf4)
      (load_plane _ 0 _) (load_plane _ 1 _) (load_plane _ 2 _) (load_plane _ 3 _) ((load_full _ _ _).trans hf5)
  isplitl [HR]; · iexact HR
  isplitl [HY]; · iexact HY
  isplitl [HC]; · iexact HC
  iexists W'; iexact HO

end Cert.Kernel4Ideal.Co

end
-- ==== Proof.CombineFrame.lean ====
/- The combination's kernel, whole: the run of the program and its frame. -/
module

public import proofs.«01_k».proof.Proof.CombineBody
public import Idealize.ShloMosaic.Lib.Claim

@[expose] public section

set_option maxRecDepth 16384

noncomputable section

namespace Cert.Kernel4Ideal.Co

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own semaphore. -/
abbrev osem0 : Fin 1 → SemLoc sig := fun _ => SemLoc.dma 9
theorem ownSemFacts0 : Pipeline.OwnSemFacts spec0 osem0 := by decide
/-- The array the kernel reads by transfers of its own: the experts' results. -/
def H0 : Finset (Ref sig .tc) := {main_arg0}
theorem H0_sub : H0 ⊆ Pipeline.restRefs sig spec0 := by decide

/-- What the kernel holds between points: its scratch at anything, the generator's register, its semaphore at zero, the experts' results. -/
theorem Phi_eq (c : Dev nD) : (Pipeline.ΦD osem0 spec0 H0 (V m) c : sProp 𝕄)
    = iprop((∃ f, scr.view.loc (c : Thread nD τ) ↦{fullShare} f) ∗ (∃ r, prngReg c r) ∗ semVal ((c : Thread nD τ), SemLoc.dma cc0_scratch1.sem) 0
        ∗ (ys.view.loc (c : Thread nD τ) ↦{fullShare} V m c main_arg0)) := by
  rw [Pipeline.ΦD_eq, scopedRest0_eq, Pipeline.ownSems0_eq_of_list c osem0 [0] (by decide) (by decide),
    BI.bigSep_eq_bigSepL_of_eq [main_arg0] (by decide) (by decide)]
  rfl

/-- Every place names a row of the experts' results. -/
def Placed : Prop := ∀ (c : Dev nD) (t : Fin cfg0.N) (u : Fin 1024), place (F := F) (iblk m c 0 t) u < 81920

/-- What the kernel leaves in the result's block at point `t`. -/
def tile (c : Dev nD) (t : Fin cfg0.N) : Vec F S256x1024 .f32 :=
  outAt (iblk m c 0 t) (iblk m c 1 t) (iblk m c 2 t) (iblk m c 3 t) (V m c main_arg0)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = tile m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point. -/
theorem sound_body (hP : Placed m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl, after0_0, after0_1, after0_2, after0_3, after0_4]
  rw [show (dats m 0 c).Φ t.castSucc = Pipeline.ΦD osem0 spec0 H0 (V m) c from rfl, Phi_eq]
  unfold Dat.owesAt Pipeline.owesWithin
  rw [show (dats m 0 c).owed t.castSucc = 0 from rfl, show (dats m 0 c).owed t.succ = 0 from rfl]
  iintro ⟨⟨⟨%f, HS⟩, Hg, Hq, HY⟩, ⟨%W, -, HW⟩, ⟨%d0, H0⟩, ⟨%d1, H1⟩, ⟨%d2, H2⟩, ⟨%d3, H3⟩, ⟨%d4, H4⟩⟩
  iapply (body c (grid0.coords t) _ _ _ _ _ _ _ _ _ _ _ _ cc0_scratch1 (iblk m c 0 t) (hP c t) (iblk m c 1 t) (iblk m c 2 t) (iblk m c 3 t) _ (V m c main_arg0) f W _)
  isplitl [H0]; · iexact H0
  isplitl [H1]; · iexact H1
  isplitl [H2]; · iexact H2
  isplitl [H3]; · iexact H3
  isplitl [H4]; · iexact H4
  isplitl [HS]; · iexact HS
  isplitl [HY]; · iexact HY
  isplitl [Hq]; · iexact Hq
  isplitl [HW]; · iexact HW
  iintro ⟨H0, H1, H2, H3, H4, HS, HY, Hq, ⟨%W', HW'⟩⟩
  isplitl [HS Hg HY Hq]
  · isplitl [HS]; · iexists _; iexact HS
    isplitl [Hg]; · iexact Hg
    isplitl [Hq]; · iexact Hq
    iexact HY
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- A window written back at a point is left at what the body leaves, idle there or not. -/
theorem leaves (b f : Bool) (X Y : sProp 𝕄) :
    f = true → (Y ⊢ (match b with | true => (match f with | false => X | true => Y) | false => Y)) := by
  rintro rfl; cases b <;> exact .rfl

/-- The library's body obligation, at every point. -/
theorem body_obligation (hP : Placed m) (c : Dev nD) : BodyObligation (dats (F := F) m 0 c) (defs₀ (F := F)) Variants.none () Set.univ := fun t => by
  rw [bigSep_W0, bigSep_W0, defs₀_row]
  exact triple_restated (sound_body m hP c t) rfl .rfl fun _ => .rfl

/-- @main up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- THE RUN: every weakly fair execution terminates, every array of the pipeline at what the data say after every write-back, every other
    buffer as the region found it, every counter at zero. -/
theorem run_main (hP : Placed m) : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hP c).loose) (hshare := fun c => (dats m 0 c).share_full fun _ => rfl)
    (howed := fun _ _ => rfl) (V := V m) (hmain := hmain m Variants.none) (hA := A_eq m)
    (hin := fun _ => .rfl) (hout := fun _ => .rfl)

/-- What the program does to its arguments: nothing. -/
theorem unchanged (c : Dev nD) (r : PUnit × MemSt nD τ sig (Elt F)) (h : Pipeline.FramePost cfgs (dats m) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).2 main_arg4 (Pipeline.mem_restRefs_of main_arg4 (by decide) (by decide))).trans (V_main_arg4 m c)⟩

end Cert.Kernel4Ideal.Co

end
-- ==== Proof.CombineTables.lean ====
/- What the precondition says of the combination's places: every one names a row of the experts' results. -/
module

public import proofs.«01_k».proof.Proof.CombineFrame
public import proofs.«01_k».proof.Proof.Gen.Pre_rows_in_range
public import Idealize.ShloMosaic.Lib.Pipeline.ValueKit
public import Idealize.ShloMosaic.Lib.WordCmp

@[expose] public section

set_option maxRecDepth 16384

noncomputable section

namespace Cert.Kernel4Ideal.Co

open Cert.Kernel4Ideal Cert.Kernel4Ideal.Gen Idealize.ShloMosaic Idealize.ShloMosaic.TcCoe

variable {F : FTy → Type} [FloatOps F]
variable (m : (ℓ : Loc nD τ sig) → Buf (Elt F) ℓ)

/-- Every place is below the number of rows. -/
def InRange : Prop := ∀ (c : Dev nD) (t : S65536.Idx), (show BitVec 32 from (m ((c.tc : Thread nD τ).loc main_arg1) : Vec F S65536 .i32) t).toNat < 81920

/-- The precondition's two comparisons of a word, as they read. -/
theorem words (a : BitVec 32) (e : IntOp.andi (IntOp.cmpi .sge a 0#32) (IntOp.cmpi .slt a 81920#32) = 1#1) : a.toNat < 81920 := by
  rw [show IntOp.andi (IntOp.cmpi .sge a 0#32) (IntOp.cmpi .slt a 81920#32) = _ from WordCmp.andi_sge_zero_slt_ofNat (k := 81920) (by decide) a] at e
  by_cases h : a.toNat < 81920
  · exact h
  · rw [decide_eq_false h] at e
    exact absurd e (by decide)

/-- The precondition says the places are in range. -/
theorem inRange_of_pre (h : ∀ c : Dev nD, Cert.Pre_rows_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) : InRange m := by
  intro c t
  have e := congrFun (h c) t
  generalize m ((c.tc : Thread nD τ).loc main_arg1) = p at *
  simp only [Pre_rows_in_range.fn, andi, cmpi, broadcastInDim, constantI] at e
  exact words _ e

/-- The places as the kernel is passed them: the argument's, in another shape. -/
theorem V_v0 (c : Dev nD) : (V m c main_v0 : Vec F S64x1x1024 .i32)
    = shapeCast S64x1x1024 (m ((c.tc : Thread nD τ).loc main_arg1) : Vec F S65536 .i32) shapeCasts_S65536_S64x1x1024 := by
  unfold V
  entry_read
  rfl

/-- In range, every block's places name rows. -/
theorem placed_of_inRange (h : InRange m) : Placed m := fun c t u => by
  unfold place iblk
  generalize hX : V m c (Pipeline.arrRef spec0 0) = X
  have hX' : (X : Vec F S64x1x1024 .i32) = shapeCast S64x1x1024 (m ((c.tc : Thread nD τ).loc main_arg1) : Vec F S65536 .i32) shapeCasts_S65536_S64x1x1024 :=
    hX.symm.trans (V_v0 m c)
  subst hX'
  exact h c _

end Cert.Kernel4Ideal.Co

end
-- ==== Proof.CombineArray.lean ====
/- What the combination's kernel leaves in its whole result, where every place names a row. -/
module

public import proofs.«01_k».proof.Proof.Combination
public import proofs.«01_k».proof.Proof.CombineTables
public import Idealize.ShloMosaic.Lib.Pipeline.ValueKit
public import Idealize.ShloMosaic.Lib.Pipeline.Covers
public import Idealize.ShloMosaic.Lib.Pointwise

@[expose] public section

set_option maxRecDepth 16384

noncomputable section

namespace Cert.Kernel4Ideal.Co

open Cert.Kernel4Ideal Cert.Kernel4Ideal.Gen Idealize.ShloMosaic Idealize.ShloMosaic.TcCoe Cert.Projection Cert.Combination

variable (m : (ℓ : Loc nD τ sig) → Buf (Elt Ideal) ℓ)

theorem covers4 : (cfg0.win 4).Covers := by decide +kernel

/-- A block's sum at an entry. -/
theorem total_apply (h : Vec Ideal S256x1024 .f32) (w : Vec Ideal S256x128 .f32) (p0 p1 p2 p3 : Vec Ideal S1x256x1024 .f32) (r : Fin 256) (d : Fin 1024) :
    total h w p0 p1 p2 p3 (ix2 r d) = blend (h (ix2 r d)) (fun k => w (ix2 r (lane k)))
      fun k => (![p0, p1, p2, p3] : Fin 4 → Vec Ideal S1x256x1024 .f32) k (ix3 0 r d) := by
  rw [← blend_eq]
  pointwise [total]
  rfl

/-- A block normalized, at an entry. -/
theorem normed_apply (v : FVec Ideal S256x1024 .f32) (g : Vec Ideal S1x1024 .f32) (r : Fin 256) (d : Fin 1024) :
    Co.normed v g (ix2 r d) = Cert.Projection.normed (fun d => v (ix2 r d)) (fun d => g (ix2 0 d)) d := by
  pointwise [Co.normed]
  rfl

/-- A row's number, where it names one. -/
theorem cell_val (p : ℕ) (d : Fin 1024) (h : p < 81920) : (cell p d (0 : Fin 2)).val = p := by
  show (if h : p < 81920 then (⟨p, h⟩ : Fin 81920) else (⟨0, by decide⟩ : Fin 81920)).val = p
  rw [dif_pos h]

/-- The row a block's place names. -/
theorem row_apply (x : Vec Ideal S1x1x1024 .i32) (y : Vec Ideal S81920x1024 .f32) (hx : ∀ t, place x t < 81920) (k : Fin 4) (r : Fin 256) (d : Fin 1024) (t : Fin 1024)
    (ht : t.val = 4 * r.val + k.val) : plane (gathered x y) k (ix3 0 r d) = y (ix2 (rowOf (x (ix3 0 0 t))) d) := by
  have en : plane (gathered x y) k (ix3 0 r d) = y (cell (place x t) d) :=
    congrArg (fun s : Fin 1024 => y (cell (place x s) d)) (Fin.ext ht.symm)
  have ex : (show BitVec 32 from x (ix3 0 0 t)).toNat = place x t :=
    congrArg (fun i => (show BitVec 32 from x i).toNat) (ValueIdx.eq_ix3 (at1 t)).symm
  refine en.trans (congrArg y (funext fun a => ?_))
  match a with
  | ⟨0, _⟩ =>
    refine Fin.ext ((cell_val _ d (hx t)).trans ?_)
    show place x t = (show BitVec 32 from x (ix3 0 0 t)).toNat % 81920
    rw [ex, Nat.mod_eq_of_lt (hx t)]
  | ⟨1, _⟩ => rfl

/-- The kernel's block at an entry. -/
theorem out_apply (x : Vec Ideal S1x1x1024 .i32) (hx : ∀ t, place x t < 81920) (h : Vec Ideal S256x1024 .f32) (w : Vec Ideal S256x128 .f32) (g : Vec Ideal S1x1024 .f32)
    (y : Vec Ideal S81920x1024 .f32) (r : Fin 256) (d : Fin 1024) :
    outAt x h w g y (ix2 r d) = Cert.Projection.normed (fun d => blend (h (ix2 r d)) (fun k => w (ix2 r (lane k)))
        fun k => y (ix2 (rowOf (x (ix3 0 0 (⟨4 * r.val + k.val, by omega⟩ : Fin 1024)))) d)) (fun d => g (ix2 0 d)) d := by
  unfold outAt
  rw [normed_apply]
  refine congrArg (fun f : Fin 1024 → EReal => Cert.Projection.normed f (fun d => g (ix2 0 d)) d) (funext fun d => ?_)
  rw [total_apply]
  refine congrArg (blend (h (ix2 r d)) fun k => w (ix2 r (lane k))) (funext fun k => ?_)
  refine Eq.trans ?_ (row_apply x y hx k r d _ rfl)
  fin_cases k <;> rfl

/-- The block of each window at each grid point. -/
theorem idx : ∀ t : Fin cfg0.N, win0_0.index t = ![t.val, 0, 0] ∧ win0_1.index t = ![t.val, 0] ∧ win0_2.index t = ![t.val, 0] ∧ win0_3.index t = ![0, 0]
    ∧ win0_4.index t = ![t.val, 0] :=
  (by decide +kernel : ∀ t : Fin grid0.N, _)

/-- The tokens' and the weights' blocks at an entry. -/
theorem h_apply (c : Dev nD) (t : Fin cfg0.N) (r : Fin 256) (d : Fin 1024) (R : Fin 16384) (hR : R.val = t.val * 256 + r.val) :
    (iblk m c 1 t : Vec Ideal S256x1024 .f32) (ix2 r d) = (m ((c.tc : Thread nD τ).loc main_arg2) : Vec Ideal S16384x1024 .f32) (ix2 R d) := by
  blk_ext [iblk, V, idx t]
theorem w_apply (c : Dev nD) (t : Fin cfg0.N) (r : Fin 256) (d : Fin 128) (R : Fin 16384) (hR : R.val = t.val * 256 + r.val) :
    (iblk m c 2 t : Vec Ideal S256x128 .f32) (ix2 r d) = (m ((c.tc : Thread nD τ).loc main_arg3) : Vec Ideal S16384x128 .f32) (ix2 R d) := by
  blk_ext [iblk, V, idx t]

/-- The places and the gain as the kernel is passed them, at an entry. -/
theorem V_v0_apply (c : Dev nD) (a : Fin 64) (u : Fin 1024) (T : Fin 65536) (hT : T.val = a.val * 1024 + u.val) :
    (V m c main_v0 : Vec Ideal S64x1x1024 .i32) (ix3 a 0 u) = (m ((c.tc : Thread nD τ).loc main_arg1) : Vec Ideal S65536 .i32) (ix1 T) := by
  refine Eq.trans ?_ (congrArg (fun T : Fin 65536 => (m ((c.tc : Thread nD τ).loc main_arg1) : Vec Ideal S65536 .i32) (ix1 T))
    (Fin.ext hT.symm : (⟨a.val * 1024 + u.val, by omega⟩ : Fin 65536) = T))
  unfold V
  entry_read
  pointwise
theorem V_v1_apply (c : Dev nD) (d : Fin 1024) :
    (V m c main_v1 : Vec Ideal S1x1024 .f32) (ix2 0 d) = (m ((c.tc : Thread nD τ).loc main_arg4) : Vec Ideal S1024 .f32) (ix1 d) := by
  unfold V
  entry_read
  pointwise

/-- Their blocks read from any contents. -/
theorem read0 (t : Fin cfg0.N) (X : Vec Ideal S64x1x1024 .i32) (u : Fin 1024) (a : Fin 64) (ha : a.val = t.val) :
    (((cfg0.win 0).blk t).view.read (Elt Ideal) X : Vec Ideal S1x1x1024 .i32) (ix3 0 0 u) = X (ix3 a 0 u) := by
  blk_ext [idx t]
theorem read3 (t : Fin cfg0.N) (X : Vec Ideal S1x1024 .f32) (d : Fin 1024) :
    (((cfg0.win 3).blk t).view.read (Elt Ideal) X : Vec Ideal S1x1024 .f32) (ix2 0 d) = X (ix2 0 d) := by
  blk_ext [idx t]

/-- The places' block at an entry. -/
theorem p_apply (c : Dev nD) (t : Fin cfg0.N) (u : Fin 1024) (T : Fin 65536) (hT : T.val = t.val * 1024 + u.val) :
    (iblk m c 0 t : Vec Ideal S1x1x1024 .i32) (ix3 0 0 u) = (m ((c.tc : Thread nD τ).loc main_arg1) : Vec Ideal S65536 .i32) (ix1 T) :=
  (read0 t (V m c main_v0) u ⟨t.val, t.isLt⟩ rfl).trans (V_v0_apply m c _ u T hT)
/-- The gain's block at an entry. -/
theorem g_apply (c : Dev nD) (t : Fin cfg0.N) (d : Fin 1024) :
    (iblk m c 3 t : Vec Ideal S1x1024 .f32) (ix2 0 d) = (m ((c.tc : Thread nD τ).loc main_arg4) : Vec Ideal S1024 .f32) (ix1 d) :=
  (read3 t (V m c main_v1) d).trans (V_v1_apply m c d)

/-- The combination of the arguments. -/
def resultOf (c : Dev nD) : Fin 16384 → Fin 1024 → EReal :=
  combined (fun r d => (m ((c.tc : Thread nD τ).loc main_arg0) : Vec Ideal S81920x1024 .f32) (ix2 r d))
    (fun t => (m ((c.tc : Thread nD τ).loc main_arg1) : Vec Ideal S65536 .i32) (ix1 t))
    (fun r d => (m ((c.tc : Thread nD τ).loc main_arg2) : Vec Ideal S16384x1024 .f32) (ix2 r d))
    (fun r l => (m ((c.tc : Thread nD τ).loc main_arg3) : Vec Ideal S16384x128 .f32) (ix2 r l))
    (fun d => (m ((c.tc : Thread nD τ).loc main_arg4) : Vec Ideal S1024 .f32) (ix1 d))

/-- What a point leaves at an entry is the combination there. -/
theorem tile_apply (hP : Placed m) (c : Dev nD) (t : Fin cfg0.N) (r : Fin 256) (d : Fin 1024) (R : Fin 16384) (hR : R.val = t.val * 256 + r.val) :
    tile m c t (ix2 r d) = resultOf m c R d := by
  unfold tile
  refine (out_apply _ (hP c t) _ _ _ _ r d).trans ?_
  unfold resultOf combined
  have eg : (fun d => (iblk m c 3 t : Vec Ideal S1x1024 .f32) (ix2 0 d)) = fun d => (m ((c.tc : Thread nD τ).loc main_arg4) : Vec Ideal S1024 .f32) (ix1 d) :=
    funext fun d => g_apply m c t d
  have eh : ∀ d, (iblk m c 1 t : Vec Ideal S256x1024 .f32) (ix2 r d) = (m ((c.tc : Thread nD τ).loc main_arg2) : Vec Ideal S16384x1024 .f32) (ix2 R d) :=
    fun d => h_apply m c t r d R hR
  have ew : (fun k => (iblk m c 2 t : Vec Ideal S256x128 .f32) (ix2 r (lane k)))
      = fun k => (m ((c.tc : Thread nD τ).loc main_arg3) : Vec Ideal S16384x128 .f32) (ix2 R (lane k)) := funext fun k => w_apply m c t r (lane k) R hR
  have ep : ∀ k : Fin 4, (iblk m c 0 t : Vec Ideal S1x1x1024 .i32) (ix3 0 0 (⟨4 * r.val + k.val, by omega⟩ : Fin 1024))
      = (m ((c.tc : Thread nD τ).loc main_arg1) : Vec Ideal S65536 .i32) (ix1 (slot R k)) :=
    fun k => p_apply m c t _ (slot R k) (by show 4 * R.val + k.val = t.val * 1024 + (4 * r.val + k.val); omega)
  have ey := V_main_arg0 m c
  rw [eg, ew, ey]
  simp only [eh, ep]

/-- The combination as an array. -/
def resultArray (c : Dev nD) : Vec Ideal S16384x1024 .f32 := fun i => resultOf m c (i 0) (i 1)

/-- The result after the run is the combination of the arguments. -/
theorem final (hP : Placed m) (c : Dev nD) : (dats m 0 c).arrAt 4 cfg0.N = resultArray m c := by
  refine (dats m 0 c).arrAt_eq_of_covers 4 _ covers4 (fun t _ y => ?_) (Memref.isWhole_whole _)
  rw [after0_4]
  have k0 : ((((cfg0.win 4).blk t).view.emb y) (0 : Fin 2)).val = t.val * 256 + (y (0 : Fin 2)).val := by blk_simp [idx t]
  have k1 : ((((cfg0.win 4).blk t).view.emb y) (1 : Fin 2)).val = (y (1 : Fin 2)).val := by blk_simp [idx t]
  exact (congrArg (tile m c t) (ValueIdx.eq_ix2 y)).trans ((tile_apply m hP c t (y (0 : Fin 2)) (y (1 : Fin 2)) _ k0).trans
    (congrArg (resultOf m c _) (Fin.ext k1.symm)))

end Cert.Kernel4Ideal.Co

end
-- ==== Proof.CombineRef.lean ====
/- What the combination's reference holds, entry by entry, where every place names a row. -/
module

public import proofs.«01_k».proof.Proof.Combination
public import proofs.«01_k».proof.Proof.Gen.Reference4Ideal.Run
public import proofs.«01_k».proof.Proof.Gen.Reference4Ideal.Read
public import Idealize.ShloMosaic.Lib.Routing.Ops
public import Idealize.ShloMosaic.Lib.Pointwise
public import Idealize.ShloMosaic.Lib.WordCmp

@[expose] public section

set_option maxRecDepth 16384

noncomputable section

namespace Cert.Reference4Ideal.Co

open Cert.Reference4Ideal Cert.Reference4Ideal.Gen Cert.Reference4Ideal.Read Idealize.ShloMosaic Idealize.ShloMosaic.TcCoe Cert.Projection Cert.Combination

/-- A place that names a row is not negative, so the choice by its sign leaves it. -/
theorem kept (a : BitVec 32) (h : a.toNat < 81920) :
    Scalar.select (IntOp.cmpi .slt a 0#32) (IntOp.addi a 81920#32) a = a := by
  rw [WordCmp.cmpi_slt_eq]
  have h0 : ¬ a.toInt < (0#32 : BitVec 32).toInt := by
    rw [BitVec.toInt_eq_toNat_of_lt (by omega)]
    show ¬ (a.toNat : ℤ) < 0
    omega
  rw [decide_eq_false h0]
  rfl

/-- The places the gather reads. -/
theorem place_apply (p : Vec Ideal S65536 .i32) (t : Fin 65536) (h : (show BitVec 32 from p (ix1 t)).toNat < 81920) :
    val_main_v6 (F := Ideal) p (ix2 t (0 : Fin 1)) = BitVec.ofNat 32 (rowOf (p (ix1 t))).val := by
  have e : val_main_v6 (F := Ideal) p (ix2 t (0 : Fin 1)) = (show BitVec 32 from p (ix1 t)) := by
    pointwise [val_main_v6, val_main_v5, val_main_v4, val_main_v3, val_main_v2, val_main_v1, val_main_c, val_main_c_0]
    exact kept _ h
  refine e.trans (BitVec.eq_of_toNat_eq ?_)
  rw [BitVec.toNat_ofNat]
  show (p (ix1 t)).toNat = (p (ix1 t)).toNat % 81920 % 2 ^ 32
  have : (p (ix1 t)).toNat < 81920 := h
  omega

/-- The gathered rows. -/
theorem gathered_apply (y : Vec Ideal S81920x1024 .f32) (p : Vec Ideal S65536 .i32) (t : Fin 65536) (h : (show BitVec 32 from p (ix1 t)).toNat < 81920) (d : Fin 1024) :
    val_main_v7 (F := Ideal) y p (ix2 t d) = y (ix2 (rowOf (p (ix1 t))) d) :=
  Routing.gather_row gather_S81920x1024_S65536x1_S65536x1024_1_0_n_n_0_1_11024 rfl rfl rfl rfl rfl y (val_main_v6 (F := Ideal) p) t d
    (rowOf (p (ix1 t))) (place_apply p t h) (by decide)

/-- The blended rows. -/
theorem blend_apply (y : Vec Ideal S81920x1024 .f32) (p : Vec Ideal S65536 .i32) (h : Vec Ideal S16384x1024 .f32) (w : Vec Ideal S16384x128 .f32)
    (hp : ∀ t : Fin 65536, (show BitVec 32 from p (ix1 t)).toNat < 81920) (r : Fin 16384) (d : Fin 1024) :
    val_main_v13 (F := Ideal) y p h w (ix2 r d)
      = blend (h (ix2 r d)) (fun k => w (ix2 r (lane k))) fun k => y (ix2 (rowOf (p (ix1 (slot r k)))) d) := by
  have e : ∀ k : Fin 4, val_main_v8 (F := Ideal) y p (ix3 r k d) = y (ix2 (rowOf (p (ix1 (slot r k)))) d) := fun k => by
    refine Eq.trans ?_ (gathered_apply y p (slot r k) (hp _) d)
    unfold val_main_v8
    generalize val_main_v7 (F := Ideal) y p = Z
    pointwise
    exact congrArg (fun q : Fin 65536 => Z (ix2 q d)) (Fin.ext (by show r.val * 4 + k.val = 4 * r.val + k.val; omega))
  pointwise [val_main_v13, val_main_v12, val_main_v11, val_main_v10, val_main_v9, val_main_v0, val_main_cst]
  exact congrArg (fun s : EReal => h (ix2 r d) + s) (Finset.sum_congr rfl fun k _ => congrArg (fun s : EReal => w (ix2 r (lane k)) * s) (e k))

/-- The result at an entry. -/
theorem result_apply (y : Vec Ideal S81920x1024 .f32) (p : Vec Ideal S65536 .i32) (h : Vec Ideal S16384x1024 .f32) (w : Vec Ideal S16384x128 .f32)
    (g : Vec Ideal S1024 .f32) (hp : ∀ t : Fin 65536, (show BitVec 32 from p (ix1 t)).toNat < 81920) (r : Fin 16384) (d : Fin 1024) :
    val_main_v26 (F := Ideal) y p h w g (ix2 r d) = combined (fun r d => y (ix2 r d)) (fun t => p (ix1 t)) (fun r d => h (ix2 r d)) (fun r l => w (ix2 r l))
      (fun d => g (ix1 d)) r d := by
  unfold combined
  simp only [← blend_apply y p h w hp]
  unfold val_main_v26 val_main_v25 val_main_v24 val_main_v23 val_main_v22 val_main_v21 val_main_v20 val_main_v19 val_main_v18 val_main_v17 val_main_v16
    val_main_v15 val_main_v14 val_main_cst_1 val_main_cst_2 val_main_cst_3
  generalize val_main_v13 (F := Ideal) y p h w = Z
  pointwise
  rfl

end Cert.Reference4Ideal.Co

end
-- ==== Proof.lean ====
module

public import proofs.«01_k».proof.Defs
public import proofs.«01_k».proof.Proof.Gen.Kernel
public import proofs.«01_k».proof.Proof.Gen.Kernel.Frame
public import proofs.«01_k».proof.Proof.Array
public import proofs.«01_k».proof.Proof.Ref
public import proofs.«01_k».proof.Proof.FloatTables
public import proofs.«01_k».proof.Proof.ExpertsArray
public import proofs.«01_k».proof.Proof.ExpertsRef
public import proofs.«01_k».proof.Proof.Gen.Kernel3.Frame
public import proofs.«01_k».proof.Proof.ProjectionBlock
public import proofs.«01_k».proof.Proof.ProjectionRef
public import proofs.«01_k».proof.Proof.CombineFloatTables
public import proofs.«01_k».proof.Proof.CombineArray
public import proofs.«01_k».proof.Proof.CombineRef
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Sb.run m ρ)

/-- The kernel's result and the reference's are one function of arguments that agree: the stick-breaking attention. -/
theorem attention : Cert.algebraic_KernelIdeal_ReferenceIdeal := by
  intro m g m' g' _ hagree
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun _ h c => ⟨(h c).1.trans ?_, (h c).2⟩) (Cert.ReferenceIdeal.Sb.run m' g')
  rw [hagree c]
  refine Eq.trans ?_ (Cert.KernelIdeal.Sb.final m c).symm
  funext j
  refine (congrArg _ (ValueIdx.eq_ix2 j)).trans ?_
  exact Cert.ReferenceIdeal.Sb.result_apply _ (j 0) (j 1)

/-- The experts' kernel, in floats, runs and changes no argument. -/
theorem frame_experts : Cert.quiescent_Kernel2 := fun m ρ h =>
  have hR := Cert.Kernel2.Ex.inRange_of_pre m h
  have hO := Cert.Kernel2.Ex.ok_of_inRange m hR
  (θ_run Cert.Kernel2.defs _ _).mono (fun r q => ⟨fun c => Cert.Kernel2.Ex.unchanged m hO c r q.1, q.2⟩)
    (Cert.Kernel2.Ex.run_main_quiescent m ρ hO (Cert.Kernel2.Ex.marked_of_inRange m hR))

/-- So does its idealization. -/
theorem frame_experts_ideal : Cert.quiescent_Kernel2Ideal := fun m ρ h =>
  have hR := Cert.Kernel2Ideal.Ex.inRange_of_pre m h
  have hO := Cert.Kernel2Ideal.Ex.ok_of_inRange m hR
  (θ_run Cert.Kernel2Ideal.defs _ _).mono (fun r q => ⟨fun c => Cert.Kernel2Ideal.Ex.unchanged m hO c r q.1, q.2⟩)
    (Cert.Kernel2Ideal.Ex.run_main_quiescent m ρ hO (Cert.Kernel2Ideal.Ex.marked_of_inRange m hR))

/-- So does the experts' reference. -/
theorem frame_experts_reference : Cert.quiescent_Reference2Ideal := fun m ρ _ =>
  (θ_run Cert.Reference2Ideal.defs _ _).mono (fun r h => ⟨fun c => (h c).2, sem_eq_zero_of_no_sems (by decide) r.2⟩)
    (Cert.Reference2Ideal.Ex.run m ρ)

/-- The experts' kernel's result and the reference's are one function of arguments that agree: the layer of each row by its tile's expert. -/
theorem experts : Cert.algebraic_Kernel2Ideal_Reference2Ideal := by
  intro m g m' g' h hagree
  have hR := Cert.Kernel2Ideal.Ex.inRange_of_pre m h
  have hO := Cert.Kernel2Ideal.Ex.ok_of_inRange m hR
  refine ⟨fun c => Cert.Kernel2Ideal.Ex.resultArray m c, ?_, ?_⟩
  · exact (θ_run Cert.Kernel2Ideal.defs _ _).mono
      (fun r q c => ⟨((q.1 c).1 5).trans (Cert.Kernel2Ideal.Ex.final m hR hO c), Cert.Kernel2Ideal.Ex.unchanged m hO c r q.1⟩)
      (Cert.Kernel2Ideal.Ex.run_main_quiescent m g hO (Cert.Kernel2Ideal.Ex.marked_of_inRange m hR))
  · refine (θ_run Cert.Reference2Ideal.defs _ _).mono (fun _ q c => ⟨(q c).1.trans ?_, (q c).2⟩) (Cert.Reference2Ideal.Ex.run m' g')
    obtain ⟨a0, a1, a2, a3, a4, a5, a6⟩ := hagree c
    rw [a0, a1, a2, a3, a4, a5, a6]
    funext i
    refine (congrArg _ (ValueIdx.eq_ix2 i)).trans ?_
    refine Cert.Reference2Ideal.Ex.result_apply _ _ _ _ _ _ _ (fun t => ?_) (i 0) (i 1)
    obtain rfl : c = 0 := Subsingleton.elim _ _
    exact (congrArg BitVec.toNat (congrFun (Cert.Kernel2Ideal.Ex.tbl0 m) _)).symm.trans_lt (hR _).1

/-- The projection's reference runs and changes no argument. -/
theorem frame_projection_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The projection's kernel's result and the reference's are one function of arguments that agree. -/
theorem projection : Cert.algebraic_Kernel3Ideal_Reference3Ideal := by
  intro m g m' g' _ hagree
  refine ⟨fun c => (Cert.Kernel3Ideal.Gen.dats m 0 c).arrAt 3 Cert.Kernel3Ideal.cfg0.N, Cert.Kernel3Ideal.Value.run_blocks m g, ?_⟩
  refine (θ_run Cert.Reference3Ideal.defs _ _).mono (fun _ h c => ⟨(h c).1.trans ?_, (h c).2⟩) (Cert.Reference3Ideal.Value.run m' g')
  obtain ⟨a0, a1, a2⟩ := hagree c
  rw [a0, a1, a2]
  refine Eq.trans ?_ (Cert.Kernel3Ideal.Pj.final m c).symm
  refine (Cert.Reference3Ideal.Read.val_main_v16_eq _ _ _).trans (funext fun i => ?_)
  refine (congrArg _ (ValueIdx.eq_ix3 i)).trans ?_
  exact Cert.Reference3Ideal.Pj.result_apply _ _ _ (i 0) (i 1) (i 2)

/-- The combination's kernel, in floats, runs and changes no argument. -/
theorem frame_combination : Cert.quiescent_Kernel4 := fun m ρ h =>
  (θ_run Cert.Kernel4.defs _ _).mono (fun r q => ⟨fun c => Cert.Kernel4.Co.unchanged m c r q.1, q.2⟩)
    (Cert.Kernel4.Co.run_main m ρ (Cert.Kernel4.Co.placed_of_inRange m (Cert.Kernel4.Co.inRange_of_pre m h)))

/-- So does its idealization. -/
theorem frame_combination_ideal : Cert.quiescent_Kernel4Ideal := fun m ρ h =>
  (θ_run Cert.Kernel4Ideal.defs _ _).mono (fun r q => ⟨fun c => Cert.Kernel4Ideal.Co.unchanged m c r q.1, q.2⟩)
    (Cert.Kernel4Ideal.Co.run_main m ρ (Cert.Kernel4Ideal.Co.placed_of_inRange m (Cert.Kernel4Ideal.Co.inRange_of_pre m h)))

/-- So does the combination's reference. -/
theorem frame_combination_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The combination's kernel's result and the reference's are one function of arguments that agree: each token's normalized combination. -/
theorem combination : Cert.algebraic_Kernel4Ideal_Reference4Ideal := by
  intro m g m' g' h hagree
  have hR := Cert.Kernel4Ideal.Co.inRange_of_pre m h
  have hP := Cert.Kernel4Ideal.Co.placed_of_inRange m hR
  refine ⟨fun c => Cert.Kernel4Ideal.Co.resultArray m c, ?_, ?_⟩
  · exact (θ_run Cert.Kernel4Ideal.defs _ _).mono
      (fun r q c => ⟨((q.1 c).1 4).trans (Cert.Kernel4Ideal.Co.final m hP c), Cert.Kernel4Ideal.Co.unchanged m c r q.1⟩)
      (Cert.Kernel4Ideal.Co.run_main m g hP)
  · refine (θ_run Cert.Reference4Ideal.defs _ _).mono (fun _ q c => ⟨(q c).1.trans ?_, (q c).2⟩) (Cert.Reference4Ideal.Value.run m' g')
    obtain ⟨a0, a1, a2, a3, a4⟩ := hagree c
    rw [a0, a1, a2, a3, a4]
    refine (Cert.Reference4Ideal.Read.val_main_v26_eq _ _ _ _ _).trans (funext fun i => ?_)
    refine (congrArg _ (ValueIdx.eq_ix2 i)).trans ?_
    exact Cert.Reference4Ideal.Co.result_apply _ _ _ _ _ (fun t => hR c _) (i 0) (i 1)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_experts_in_range.Gen.facts, Cert.Pre_rows_in_range.Gen.facts,
  fun m ρ _ => Cert.Kernel.Gen.frame m ρ, fun m ρ _ => Cert.KernelIdeal.Gen.frame m ρ, frame_reference,
  frame_experts, frame_experts_ideal, frame_experts_reference,
  fun m ρ _ => Cert.Kernel3.Gen.frame m ρ, fun m ρ _ => Cert.Kernel3Ideal.Gen.frame m ρ, frame_projection_reference,
  frame_combination, frame_combination_ideal, frame_combination_reference,
  trivial, attention, trivial, experts, trivial, projection, trivial, combination⟩

end Cert.Proof

end
